-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_valid [hPre_inputs_valid : Cert.Pre_inputs_valid.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_inputs_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_valid [hPre_inputs_valid : Cert.Pre_inputs_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_inputs_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_valid [hKernelIdeal : Cert.KernelIdeal.Facts] [hPre_inputs_valid : Cert.Pre_inputs_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_valid [hReferenceIdeal : Cert.ReferenceIdeal.Facts] [hPre_inputs_valid : Cert.Pre_inputs_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_inputs_valid [hKernelIdeal : Cert.KernelIdeal.Facts] [hReferenceIdeal : Cert.ReferenceIdeal.Facts] [hPre_inputs_valid : Cert.Pre_inputs_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v57)) (v2 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_v58) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_inputs_valid : Cert.Pre_inputs_valid.Facts),
    quiescent_Kernel (hKernel := hKernel)
    ∧ quiescent_KernelIdeal (hKernelIdeal := hKernelIdeal)
    ∧ quiescent_KernelIdeal_pre_inputs_valid (hKernelIdeal := hKernelIdeal) (hPre_inputs_valid := hPre_inputs_valid)
    ∧ quiescent_ReferenceIdeal (hReferenceIdeal := hReferenceIdeal)
    ∧ quiescent_ReferenceIdeal_pre_inputs_valid (hReferenceIdeal := hReferenceIdeal) (hPre_inputs_valid := hPre_inputs_valid)
    ∧ preserves_Kernel_KernelIdeal
    ∧ algebraic_KernelIdeal_ReferenceIdeal_pre_inputs_valid (hKernelIdeal := hKernelIdeal) (hReferenceIdeal := hReferenceIdeal) (hPre_inputs_valid := hPre_inputs_valid)
-- ==== Pre_inputs_valid.lean ====
abbrev S1x4096x5120 : Shape := ⟨3, ![1, 4096, 5120]⟩
abbrev S5120x5120 : Shape := ⟨2, ![5120, 5120]⟩
abbrev S5120x160 : Shape := ⟨2, ![5120, 160]⟩
abbrev S5120 : Shape := ⟨1, ![5120]⟩
abbrev S4096x160x32 : Shape := ⟨3, ![4096, 160, 32]⟩
abbrev S_ : Shape := ⟨0, ![]⟩
abbrev S4096x160 : Shape := ⟨2, ![4096, 160]⟩

class Facts : Prop where
  bitsLt_bf16_f32 : FTy.bits .bf16 < FTy.bits .f32
  shapeCasts_S1x4096x5120_S4096x160x32 : S1x4096x5120.ShapeCasts S4096x160x32
  reducesTo_S4096x160x32_S4096x160_d2 : S4096x160x32.ReducesTo [2] S4096x160
  h_S_ : 0 < S_.numel
  natLt_8_32 : 8 < 32
  bcast_S_S4096x160 : S_.BroadcastsInDim S4096x160 (![] : Fin 0 → Fin S4096x160.rank)
  bcast_S_S5120x160 : S_.BroadcastsInDim S5120x160 (![] : Fin 0 → Fin S5120x160.rank)

variable [Facts]

def fn_part1 {F : FTy → Type} [FloatOps F] (main_v4 : IVec S5120x160 32) (main_v14 : IVec S4096x160 1) (main_v16 : IVec S5120x160 1) (main_c_4 : IVec S_ 32) : IVec S4096x160 1 × IVec S5120x160 1 :=
  let main_v17 : IVec S5120x160 32 := broadcastInDim S5120x160 ![] bcast_S_S5120x160 main_c_4
  let main_v18 : IVec S5120x160 1 := cmpi .sle main_v4 main_v17
  let main_v19 : IVec S5120x160 1 := andi main_v16 main_v18
  (main_v14, main_v19)

def fn {F : FTy → Type} [FloatOps F] (main_arg0 : FVec F S1x4096x5120 .bf16) (main_arg1 : FVec F S5120x5120 .fp8e4m3) (main_arg2 : IVec S5120x160 8) (main_arg3 : FVec F S5120 .f32) : IVec S4096x160 1 × IVec S5120x160 1 :=
  let main_v0 : FVec F S1x4096x5120 .f32 := (extf .f32 · bitsLt_bf16_f32) main_arg0
  let main_v1 : FVec F S4096x160x32 .f32 := shapeCast S4096x160x32 main_v0 shapeCasts_S1x4096x5120_S4096x160x32
  let main_v2 : FVec F S4096x160x32 .f32 := Host.absf main_v1
  let main_cst : FVec F S_ .f32 := constant S_ .f32 0xFF800000#32
  let main_v3 : FVec F S4096x160 .f32 := (fun x v => Host.reduce FloatOps.maximumf x v reducesTo_S4096x160x32_S4096x160_d2 h_S_) main_v2 main_cst
  let main_v4 : IVec S5120x160 32 := (extui 32 · natLt_8_32) main_arg2
  let main_cst_0 : FVec F S_ .f32 := constant S_ .f32 0x7F7F0000#32
  let main_v5 : FVec F S4096x160 .f32 := broadcastInDim S4096x160 ![] bcast_S_S4096x160 main_cst_0
  let main_v6 : IVec S4096x160 1 := cmpf .ole main_v3 main_v5
  let main_cst_1 : FVec F S_ .f32 := constant S_ .f32 0x00000000#32
  let main_v7 : FVec F S4096x160 .f32 := broadcastInDim S4096x160 ![] bcast_S_S4096x160 main_cst_1
  let main_v8 : IVec S4096x160 1 := cmpf .oeq main_v3 main_v7
  let main_cst_2 : FVec F S_ .f32 := constant S_ .f32 0x3B124925#32
  let main_v9 : FVec F S4096x160 .f32 := broadcastInDim S4096x160 ![] bcast_S_S4096x160 main_cst_2
  let main_v10 : FVec F S4096x160 .f32 := mulf main_v3 main_v9
  let main_cst_3 : FVec F S_ .f32 := constant S_ .f32 0x00800000#32
  let main_v11 : FVec F S4096x160 .f32 := broadcastInDim S4096x160 ![] bcast_S_S4096x160 main_cst_3
  let main_v12 : IVec S4096x160 1 := cmpf .oge main_v10 main_v11
  let main_v13 : IVec S4096x160 1 := ori main_v8 main_v12
  let main_v14 : IVec S4096x160 1 := andi main_v6 main_v13
  let main_c : IVec S_ 32 := constantI S_ 32 1#32
  let main_v15 : IVec S5120x160 32 := broadcastInDim S5120x160 ![] bcast_S_S5120x160 main_c
  let main_v16 : IVec S5120x160 1 := cmpi .sge main_v4 main_v15
  let main_c_4 : IVec S_ 32 := constantI S_ 32 254#32
  fn_part1 (F := F) main_v4 main_v14 main_v16 main_c_4
-- ==== Kernel.lean ====
abbrev S1x4096x5120 : Shape := ⟨3, ![1, 4096, 5120]⟩
abbrev S5120x5120 : Shape := ⟨2, ![5120, 5120]⟩
abbrev S5120x160 : Shape := ⟨2, ![5120, 160]⟩
abbrev S5120 : Shape := ⟨1, ![5120]⟩
abbrev S4096x5120 : Shape := ⟨2, ![4096, 5120]⟩
abbrev S640x1024 : Shape := ⟨2, ![640, 1024]⟩
abbrev S_ : Shape := ⟨0, ![]⟩
abbrev S4096x160 : Shape := ⟨2, ![4096, 160]⟩
abbrev S256x5120 : Shape := ⟨2, ![256, 5120]⟩
abbrev S256x160 : Shape := ⟨2, ![256, 160]⟩
abbrev S256x128 : Shape := ⟨2, ![256, 128]⟩
abbrev S256x128x1 : Shape := ⟨3, ![256, 128, 1]⟩
abbrev S128x128 : Shape := ⟨2, ![128, 128]⟩
abbrev S128x128x1 : Shape := ⟨3, ![128, 128, 1]⟩
abbrev S64x128 : Shape := ⟨2, ![64, 128]⟩
abbrev S64x128x1 : Shape := ⟨3, ![64, 128, 1]⟩
abbrev S64x640 : Shape := ⟨2, ![64, 640]⟩
abbrev S64x1024 : Shape := ⟨2, ![64, 1024]⟩
abbrev S64x160 : Shape := ⟨2, ![64, 160]⟩
abbrev S256x96 : Shape := ⟨2, ![256, 96]⟩
abbrev S256x256 : Shape := ⟨2, ![256, 256]⟩
abbrev S1x5120 : Shape := ⟨2, ![1, 5120]⟩
abbrev S1024x5120 : Shape := ⟨2, ![1024, 5120]⟩
abbrev S1x1024 : Shape := ⟨2, ![1, 1024]⟩
abbrev S1024x1024 : Shape := ⟨2, ![1024, 1024]⟩
abbrev S1x4096x160 : Shape := ⟨3, ![1, 4096, 160]⟩

abbrev nBuf : Space → Nat
  | .hbm => 89
  | .vmem => 23
  | .smem => 0
  | _ => 0

abbrev bufTy : (tb : Table) → Fin (tcTables nBuf tb) → BufTy
  | .hbm, ⟨0, _⟩ => ⟨S1x4096x5120, .bf16⟩
  | .hbm, ⟨1, _⟩ => ⟨S5120x5120, .fp8e4m3⟩
  | .hbm, ⟨2, _⟩ => ⟨S5120x160, .i8⟩
  | .hbm, ⟨3, _⟩ => ⟨S5120, .f32⟩
  | .hbm, ⟨4, _⟩ => ⟨S4096x5120, .bf16⟩
  | .hbm, ⟨5, _⟩ => ⟨S640x1024, .i32⟩
  | .hbm, ⟨6, _⟩ => ⟨S640x1024, .i32⟩
  | .hbm, ⟨7, _⟩ => ⟨S_, .i32⟩
  | .hbm, ⟨8, _⟩ => ⟨S640x1024, .i32⟩
  | .hbm, ⟨9, _⟩ => ⟨S640x1024, .i32⟩
  | .hbm, ⟨10, _⟩ => ⟨S_, .i32⟩
  | .hbm, ⟨11, _⟩ => ⟨S640x1024, .i32⟩
  | .hbm, ⟨12, _⟩ => ⟨S640x1024, .i32⟩
  | .hbm, ⟨13, _⟩ => ⟨S_, .i32⟩
  | .hbm, ⟨14, _⟩ => ⟨S640x1024, .i32⟩
  | .hbm, ⟨15, _⟩ => ⟨S640x1024, .i32⟩
  | .hbm, ⟨16, _⟩ => ⟨S_, .i32⟩
  | .hbm, ⟨17, _⟩ => ⟨S640x1024, .i32⟩
  | .hbm, ⟨18, _⟩ => ⟨S640x1024, .i32⟩
  | .hbm, ⟨19, _⟩ => ⟨S_, .i32⟩
  | .hbm, ⟨20, _⟩ => ⟨S640x1024, .i32⟩
  | .hbm, ⟨21, _⟩ => ⟨S640x1024, .i32⟩
  | .hbm, ⟨22, _⟩ => ⟨S_, .i32⟩
  | .hbm, ⟨23, _⟩ => ⟨S640x1024, .i32⟩
  | .hbm, ⟨24, _⟩ => ⟨S640x1024, .i32⟩
  | .hbm, ⟨25, _⟩ => ⟨S_, .i32⟩
  | .hbm, ⟨26, _⟩ => ⟨S640x1024, .i32⟩
  | .hbm, ⟨27, _⟩ => ⟨S640x1024, .i32⟩
  | .hbm, ⟨28, _⟩ => ⟨S_, .i32⟩
  | .hbm, ⟨29, _⟩ => ⟨S640x1024, .i32⟩
  | .hbm, ⟨30, _⟩ => ⟨S640x1024, .i32⟩
  | .hbm, ⟨31, _⟩ => ⟨S_, .i32⟩
  | .hbm, ⟨32, _⟩ => ⟨S640x1024, .i32⟩
  | .hbm, ⟨33, _⟩ => ⟨S640x1024, .i32⟩
  | .hbm, ⟨34, _⟩ => ⟨S_, .i32⟩
  | .hbm, ⟨35, _⟩ => ⟨S640x1024, .i32⟩
  | .hbm, ⟨36, _⟩ => ⟨S640x1024, .i32⟩
  | .hbm, ⟨37, _⟩ => ⟨S_, .i32⟩
  | .hbm, ⟨38, _⟩ => ⟨S640x1024, .i32⟩
  | .hbm, ⟨39, _⟩ => ⟨S640x1024, .i32⟩
  | .hbm, ⟨40, _⟩ => ⟨S_, .i32⟩
  | .hbm, ⟨41, _⟩ => ⟨S640x1024, .i32⟩
  | .hbm, ⟨42, _⟩ => ⟨S640x1024, .i32⟩
  | .hbm, ⟨43, _⟩ => ⟨S_, .i32⟩
  | .hbm, ⟨44, _⟩ => ⟨S640x1024, .i32⟩
  | .hbm, ⟨45, _⟩ => ⟨S640x1024, .i32⟩
  | .hbm, ⟨46, _⟩ => ⟨S640x1024, .i32⟩
  | .hbm, ⟨47, _⟩ => ⟨S_, .i32⟩
  | .hbm, ⟨48, _⟩ => ⟨S640x1024, .i32⟩
  | .hbm, ⟨49, _⟩ => ⟨S640x1024, .i32⟩
  | .hbm, ⟨50, _⟩ => ⟨S640x1024, .i32⟩
  | .hbm, ⟨51, _⟩ => ⟨S_, .i32⟩
  | .hbm, ⟨52, _⟩ => ⟨S640x1024, .i32⟩
  | .hbm, ⟨53, _⟩ => ⟨S640x1024, .i32⟩
  | .hbm, ⟨54, _⟩ => ⟨S640x1024, .i32⟩
  | .hbm, ⟨55, _⟩ => ⟨S_, .i32⟩
  | .hbm, ⟨56, _⟩ => ⟨S640x1024, .i32⟩
  | .hbm, ⟨57, _⟩ => ⟨S640x1024, .i32⟩
  | .hbm, ⟨58, _⟩ => ⟨S_, .i32⟩
  | .hbm, ⟨59, _⟩ => ⟨S640x1024, .i32⟩
  | .hbm, ⟨60, _⟩ => ⟨S640x1024, .i32⟩
  | .hbm, ⟨61, _⟩ => ⟨S640x1024, .i32⟩
  | .hbm, ⟨62, _⟩ => ⟨S_, .i32⟩
  | .hbm, ⟨63, _⟩ => ⟨S640x1024, .i32⟩
  | .hbm, ⟨64, _⟩ => ⟨S640x1024, .i32⟩
  | .hbm, ⟨65, _⟩ => ⟨S640x1024, .i32⟩
  | .hbm, ⟨66, _⟩ => ⟨S_, .i32⟩
  | .hbm, ⟨67, _⟩ => ⟨S640x1024, .i32⟩
  | .hbm, ⟨68, _⟩ => ⟨S640x1024, .i32⟩
  | .hbm, ⟨69, _⟩ => ⟨S_, .i32⟩
  | .hbm, ⟨70, _⟩ => ⟨S640x1024, .i32⟩
  | .hbm, ⟨71, _⟩ => ⟨S640x1024, .i32⟩
  | .hbm, ⟨72, _⟩ => ⟨S640x1024, .i32⟩
  | .hbm, ⟨73, _⟩ => ⟨S640x1024, .i1⟩
  | .hbm, ⟨74, _⟩ => ⟨S_, .f32⟩
  | .hbm, ⟨75, _⟩ => ⟨S_, .f32⟩
  | .hbm, ⟨76, _⟩ => ⟨S640x1024, .f32⟩
  | .hbm, ⟨77, _⟩ => ⟨S640x1024, .f32⟩
  | .hbm, ⟨78, _⟩ => ⟨S640x1024, .f32⟩
  | .hbm, ⟨79, _⟩ => ⟨S640x1024, .bf16⟩
  | .hbm, ⟨80, _⟩ => ⟨S4096x5120, .fp8e4m3⟩
  | .hbm, ⟨81, _⟩ => ⟨S4096x160, .i8⟩
  | .hbm, ⟨82, _⟩ => ⟨S4096x5120, .bf16⟩
  | .hbm, ⟨83, _⟩ => ⟨S5120x5120, .bf16⟩
  | .hbm, ⟨84, _⟩ => ⟨S1x5120, .f32⟩
  | .hbm, ⟨85, _⟩ => ⟨S4096x5120, .bf16⟩
  | .hbm, ⟨86, _⟩ => ⟨S1x4096x5120, .bf16⟩
  | .hbm, ⟨87, _⟩ => ⟨S1x4096x5120, .fp8e4m3⟩
  | .hbm, ⟨88, _⟩ => ⟨S1x4096x160, .i8⟩
  | .local _ .vmem, ⟨0, _⟩ => ⟨S256x5120, .bf16⟩
  | .local _ .vmem, ⟨1, _⟩ => ⟨S256x5120, .bf16⟩
  | .local _ .vmem, ⟨2, _⟩ => ⟨S640x1024, .bf16⟩
  | .local _ .vmem, ⟨3, _⟩ => ⟨S256x5120, .fp8e4m3⟩
  | .local _ .vmem, ⟨4, _⟩ => ⟨S256x5120, .fp8e4m3⟩
  | .local _ .vmem, ⟨5, _⟩ => ⟨S256x160, .i8⟩
  | .local _ .vmem, ⟨6, _⟩ => ⟨S256x160, .i8⟩
  | .local _ .vmem, ⟨7, _⟩ => ⟨S256x5120, .bf16⟩
  | .local _ .vmem, ⟨8, _⟩ => ⟨S256x5120, .bf16⟩
  | .local _ .vmem, ⟨9, _⟩ => ⟨S256x5120, .fp8e4m3⟩
  | .local _ .vmem, ⟨10, _⟩ => ⟨S256x5120, .fp8e4m3⟩
  | .local _ .vmem, ⟨11, _⟩ => ⟨S256x160, .i8⟩
  | .local _ .vmem, ⟨12, _⟩ => ⟨S256x160, .i8⟩
  | .local _ .vmem, ⟨13, _⟩ => ⟨S256x5120, .bf16⟩
  | .local _ .vmem, ⟨14, _⟩ => ⟨S256x5120, .bf16⟩
  | .local _ .vmem, ⟨15, _⟩ => ⟨S1024x5120, .bf16⟩
  | .local _ .vmem, ⟨16, _⟩ => ⟨S1024x5120, .bf16⟩
  | .local _ .vmem, ⟨17, _⟩ => ⟨S1024x5120, .bf16⟩
  | .local _ .vmem, ⟨18, _⟩ => ⟨S1024x5120, .bf16⟩
  | .local _ .vmem, ⟨19, _⟩ => ⟨S1x1024, .f32⟩
  | .local _ .vmem, ⟨20, _⟩ => ⟨S1x1024, .f32⟩
  | .local _ .vmem, ⟨21, _⟩ => ⟨S1024x1024, .bf16⟩
  | .local _ .vmem, ⟨22, _⟩ => ⟨S1024x1024, .bf16⟩
  | _, _ => ⟨S1x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_c_5 : Ref sig .tc := ⟨.hbm, 25, rfl⟩
abbrev main_v15 : Ref sig .tc := ⟨.hbm, 26, rfl⟩
abbrev main_v16 : Ref sig .tc := ⟨.hbm, 27, rfl⟩
abbrev main_c_6 : Ref sig .tc := ⟨.hbm, 28, rfl⟩
abbrev main_v17 : Ref sig .tc := ⟨.hbm, 29, rfl⟩
abbrev main_v18 : Ref sig .tc := ⟨.hbm, 30, rfl⟩
abbrev main_c_7 : Ref sig .tc := ⟨.hbm, 31, rfl⟩
abbrev main_v19 : Ref sig .tc := ⟨.hbm, 32, rfl⟩
abbrev main_v20 : Ref sig .tc := ⟨.hbm, 33, rfl⟩
abbrev main_c_8 : Ref sig .tc := ⟨.hbm, 34, rfl⟩
abbrev main_v21 : Ref sig .tc := ⟨.hbm, 35, rfl⟩
abbrev main_v22 : Ref sig .tc := ⟨.hbm, 36, rfl⟩
abbrev main_c_9 : Ref sig .tc := ⟨.hbm, 37, rfl⟩
abbrev main_v23 : Ref sig .tc := ⟨.hbm, 38, rfl⟩
abbrev main_v24 : Ref sig .tc := ⟨.hbm, 39, rfl⟩
abbrev main_c_10 : Ref sig .tc := ⟨.hbm, 40, rfl⟩
abbrev main_v25 : Ref sig .tc := ⟨.hbm, 41, rfl⟩
abbrev main_v26 : Ref sig .tc := ⟨.hbm, 42, rfl⟩
abbrev main_c_11 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_12 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_13 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_14 : Ref sig .tc := ⟨.hbm, 55, rfl⟩
abbrev main_v36 : Ref sig .tc := ⟨.hbm, 56, rfl⟩
abbrev main_v37 : Ref sig .tc := ⟨.hbm, 57, rfl⟩
abbrev main_c_15 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_16 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_17 : Ref sig .tc := ⟨.hbm, 66, rfl⟩
abbrev main_v44 : Ref sig .tc := ⟨.hbm, 67, rfl⟩
abbrev main_v45 : Ref sig .tc := ⟨.hbm, 68, rfl⟩
abbrev main_c_18 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst : Ref sig .tc := ⟨.hbm, 74, rfl⟩
abbrev main_cst_19 : Ref sig .tc := ⟨.hbm, 75, rfl⟩
abbrev main_call0_v0 : Ref sig .tc := ⟨.hbm, 76, rfl⟩
abbrev main_call0_v1 : Ref sig .tc := ⟨.hbm, 77, rfl⟩
abbrev main_v50 : Ref sig .tc := ⟨.hbm, 78, rfl⟩
abbrev main_v51 : Ref sig .tc := ⟨.hbm, 79, rfl⟩
abbrev main_v52_0 : Ref sig .tc := ⟨.hbm, 80, rfl⟩
abbrev main_v52_1 : Ref sig .tc := ⟨.hbm, 81, rfl⟩
abbrev main_v52_2 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x160 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x5120 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x160 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x5120 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 5], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x5120 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x5120 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== ReferenceIdeal.lean ====
abbrev S1x4096x5120 : Shape := ⟨3, ![1, 4096, 5120]⟩
abbrev S5120x5120 : Shape := ⟨2, ![5120, 5120]⟩
abbrev S5120x160 : Shape := ⟨2, ![5120, 160]⟩
abbrev S5120 : Shape := ⟨1, ![5120]⟩
abbrev S4096x160x32 : Shape := ⟨3, ![4096, 160, 32]⟩
abbrev S_ : Shape := ⟨0, ![]⟩
abbrev S4096x160 : Shape := ⟨2, ![4096, 160]⟩
abbrev S253 : Shape := ⟨1, ![253]⟩
abbrev S4096x160x1 : Shape := ⟨3, ![4096, 160, 1]⟩
abbrev S1x1x253 : Shape := ⟨3, ![1, 1, 253]⟩
abbrev S4096x160x253 : Shape := ⟨3, ![4096, 160, 253]⟩
abbrev S4096x5120 : Shape := ⟨2, ![4096, 5120]⟩
abbrev S5120x160x32 : Shape := ⟨3, ![5120, 160, 32]⟩
abbrev S160x4096x5120 : Shape := ⟨3, ![160, 4096, 5120]⟩
abbrev S160x4096 : Shape := ⟨2, ![160, 4096]⟩
abbrev S160x4096x1 : Shape := ⟨3, ![160, 4096, 1]⟩
abbrev S160x5120 : Shape := ⟨2, ![160, 5120]⟩
abbrev S160x1x5120 : Shape := ⟨3, ![160, 1, 5120]⟩
abbrev S1x5120 : Shape := ⟨2, ![1, 5120]⟩
abbrev S1x4096x160 : Shape := ⟨3, ![1, 4096, 160]⟩

abbrev nBuf : Space → Nat
  | .hbm => 100
  | .vmem => 5
  | .smem => 0
  | _ => 0

abbrev bufTy : (tb : Table) → Fin (tcTables nBuf tb) → BufTy
  | .hbm, ⟨0, _⟩ => ⟨S1x4096x5120, .bf16⟩
  | .hbm, ⟨1, _⟩ => ⟨S5120x5120, .fp8e4m3⟩
  | .hbm, ⟨2, _⟩ => ⟨S5120x160, .i8⟩
  | .hbm, ⟨3, _⟩ => ⟨S5120, .f32⟩
  | .hbm, ⟨4, _⟩ => ⟨S1x4096x5120, .f32⟩
  | .hbm, ⟨5, _⟩ => ⟨S4096x160x32, .f32⟩
  | .hbm, ⟨6, _⟩ => ⟨S4096x160x32, .f32⟩
  | .hbm, ⟨7, _⟩ => ⟨S_, .f32⟩
  | .hbm, ⟨8, _⟩ => ⟨S4096x160, .f32⟩
  | .hbm, ⟨9, _⟩ => ⟨S_, .f32⟩
  | .hbm, ⟨10, _⟩ => ⟨S4096x160, .f32⟩
  | .hbm, ⟨11, _⟩ => ⟨S4096x160, .f32⟩
  | .hbm, ⟨12, _⟩ => ⟨S253, .i32⟩
  | .hbm, ⟨13, _⟩ => ⟨S_, .i32⟩
  | .hbm, ⟨14, _⟩ => ⟨S253, .i32⟩
  | .hbm, ⟨15, _⟩ => ⟨S253, .i32⟩
  | .hbm, ⟨16, _⟩ => ⟨S253, .f32⟩
  | .hbm, ⟨17, _⟩ => ⟨S_, .f32⟩
  | .hbm, ⟨18, _⟩ => ⟨S253, .f32⟩
  | .hbm, ⟨19, _⟩ => ⟨S253, .f32⟩
  | .hbm, ⟨20, _⟩ => ⟨S4096x160x1, .f32⟩
  | .hbm, ⟨21, _⟩ => ⟨S1x1x253, .f32⟩
  | .hbm, ⟨22, _⟩ => ⟨S4096x160x253, .f32⟩
  | .hbm, ⟨23, _⟩ => ⟨S4096x160x253, .f32⟩
  | .hbm, ⟨24, _⟩ => ⟨S4096x160x253, .i1⟩
  | .hbm, ⟨25, _⟩ => ⟨S4096x160x253, .i32⟩
  | .hbm, ⟨26, _⟩ => ⟨S_, .i32⟩
  | .hbm, ⟨27, _⟩ => ⟨S4096x160, .i32⟩
  | .hbm, ⟨28, _⟩ => ⟨S_, .i32⟩
  | .hbm, ⟨29, _⟩ => ⟨S4096x160, .i32⟩
  | .hbm, ⟨30, _⟩ => ⟨S4096x160, .i32⟩
  | .hbm, ⟨31, _⟩ => ⟨S_, .f32⟩
  | .hbm, ⟨32, _⟩ => ⟨S4096x160, .f32⟩
  | .hbm, ⟨33, _⟩ => ⟨S4096x160, .i1⟩
  | .hbm, ⟨34, _⟩ => ⟨S_, .i32⟩
  | .hbm, ⟨35, _⟩ => ⟨S_, .i32⟩
  | .hbm, ⟨36, _⟩ => ⟨S4096x160, .i32⟩
  | .hbm, ⟨37, _⟩ => ⟨S4096x160, .i32⟩
  | .hbm, ⟨38, _⟩ => ⟨S1x4096x5120, .f32⟩
  | .hbm, ⟨39, _⟩ => ⟨S4096x160x32, .f32⟩
  | .hbm, ⟨40, _⟩ => ⟨S4096x160, .i32⟩
  | .hbm, ⟨41, _⟩ => ⟨S4096x160, .f32⟩
  | .hbm, ⟨42, _⟩ => ⟨S_, .f32⟩
  | .hbm, ⟨43, _⟩ => ⟨S4096x160, .f32⟩
  | .hbm, ⟨44, _⟩ => ⟨S4096x160, .f32⟩
  | .hbm, ⟨45, _⟩ => ⟨S4096x160x1, .f32⟩
  | .hbm, ⟨46, _⟩ => ⟨S4096x160x32, .f32⟩
  | .hbm, ⟨47, _⟩ => ⟨S4096x160x32, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4096x160x32, .f32⟩
  | .hbm, ⟨52, _⟩ => ⟨S4096x160x32, .f32⟩
  | .hbm, ⟨53, _⟩ => ⟨S_, .f32⟩
  | .hbm, ⟨54, _⟩ => ⟨S4096x160x32, .f32⟩
  | .hbm, ⟨55, _⟩ => ⟨S4096x160x32, .f32⟩
  | .hbm, ⟨56, _⟩ => ⟨S4096x5120, .f32⟩
  | .hbm, ⟨57, _⟩ => ⟨S_, .i32⟩
  | .hbm, ⟨58, _⟩ => ⟨S4096x160, .i32⟩
  | .hbm, ⟨59, _⟩ => ⟨S4096x160, .i32⟩
  | .hbm, ⟨60, _⟩ => ⟨S4096x160, .i8⟩
  | .hbm, ⟨61, _⟩ => ⟨S4096x5120, .fp8e4m3⟩
  | .hbm, ⟨62, _⟩ => ⟨S4096x5120, .f32⟩
  | .hbm, ⟨63, _⟩ => ⟨S5120x5120, .f32⟩
  | .hbm, ⟨64, _⟩ => ⟨S4096x160, .i32⟩
  | .hbm, ⟨65, _⟩ => ⟨S_, .i32⟩
  | .hbm, ⟨66, _⟩ => ⟨S4096x160, .i32⟩
  | .hbm, ⟨67, _⟩ => ⟨S4096x160, .i32⟩
  | .hbm, ⟨68, _⟩ => ⟨S4096x160, .f32⟩
  | .hbm, ⟨69, _⟩ => ⟨S_, .f32⟩
  | .hbm, ⟨70, _⟩ => ⟨S4096x160, .f32⟩
  | .hbm, ⟨71, _⟩ => ⟨S4096x160, .f32⟩
  | .hbm, ⟨72, _⟩ => ⟨S5120x160, .i32⟩
  | .hbm, ⟨73, _⟩ => ⟨S_, .i32⟩
  | .hbm, ⟨74, _⟩ => ⟨S5120x160, .i32⟩
  | .hbm, ⟨75, _⟩ => ⟨S5120x160, .i32⟩
  | .hbm, ⟨76, _⟩ => ⟨S5120x160, .f32⟩
  | .hbm, ⟨77, _⟩ => ⟨S_, .f32⟩
  | .hbm, ⟨78, _⟩ => ⟨S5120x160, .f32⟩
  | .hbm, ⟨79, _⟩ => ⟨S5120x160, .f32⟩
  | .hbm, ⟨80, _⟩ => ⟨S4096x160x32, .f32⟩
  | .hbm, ⟨81, _⟩ => ⟨S5120x160x32, .f32⟩
  | .hbm, ⟨82, _⟩ => ⟨S160x4096x5120, .f32⟩
  | .hbm, ⟨83, _⟩ => ⟨S160x4096, .f32⟩
  | .hbm, ⟨84, _⟩ => ⟨S160x4096x1, .f32⟩
  | .hbm, ⟨85, _⟩ => ⟨S160x4096x5120, .f32⟩
  | .hbm, ⟨86, _⟩ => ⟨S160x4096x5120, .f32⟩
  | .hbm, ⟨87, _⟩ => ⟨S160x5120, .f32⟩
  | .hbm, ⟨88, _⟩ => ⟨S160x1x5120, .f32⟩
  | .hbm, ⟨89, _⟩ => ⟨S160x4096x5120, .f32⟩
  | .hbm, ⟨90, _⟩ => ⟨S160x4096x5120, .f32⟩
  | .hbm, ⟨91, _⟩ => ⟨S_, .f32⟩
  | .hbm, ⟨92, _⟩ => ⟨S4096x5120, .f32⟩
  | .hbm, ⟨93, _⟩ => ⟨S1x5120, .f32⟩
  | .hbm, ⟨94, _⟩ => ⟨S4096x5120, .f32⟩
  | .hbm, ⟨95, _⟩ => ⟨S4096x5120, .f32⟩
  | .hbm, ⟨96, _⟩ => ⟨S4096x5120, .bf16⟩
  | .hbm, ⟨97, _⟩ => ⟨S1x4096x5120, .bf16⟩
  | .hbm, ⟨98, _⟩ => ⟨S1x4096x5120, .fp8e4m3⟩
  | .hbm, ⟨99, _⟩ => ⟨S1x4096x160, .i8⟩
  | .local _ .vmem, ⟨0, _⟩ => ⟨S4096x5120, .f32⟩
  | .local _ .vmem, ⟨1, _⟩ => ⟨S5120x5120, .fp8e4m3⟩
  | .local _ .vmem, ⟨2, _⟩ => ⟨S4096x5120, .fp8e4m3⟩
  | .local _ .vmem, ⟨3, _⟩ => ⟨S4096x5120, .f32⟩
  | .local _ .vmem, ⟨4, _⟩ => ⟨S5120x5120, .f32⟩
  | _, _ => ⟨S1x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_call0_v0 : Ref sig .tc := ⟨.hbm, 35, rfl⟩
abbrev main_call0_v1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_cst_8 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38_0 : Ref sig .tc := ⟨.hbm, 61, rfl⟩
abbrev main_v38_1 : Ref sig .tc := ⟨.hbm, 62, rfl⟩
abbrev main_v38_2 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_11 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_12 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_13 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Tile.lean ====
/-
  ONE 128-LANE TILE OF THE WEIGHT DECODER, on the extended reals.

  The decoder kernel takes a block of 256 rows of weight codes (256 × 5120) and of scale codes (256 × 160, one for each
  32 consecutive weights of a row) and writes the decoded weights in 40 tiles of 128 lanes. A tile takes its four
  scales out of a register of 128 scales by a gather along the lanes whose index at lane `l` is `l / 32 + g`, and
  multiplies by them. Here the tile is stated once, for any offsets (`gatherTile`), and read at an index
  (`gatherTile_apply`).
-/
module

public import proofs.«01_k».proof.Proof.Gen.KernelIdeal.Skeleton
public import Idealize.ShloMosaic.Lib.Pipeline.Value
public import Idealize.ShloMosaic.Lib.Pipeline.ValueKit
public import Idealize.ShloMosaic.Lib.ValueIdxCore

@[expose] public section

set_option maxRecDepth 16384

noncomputable section

namespace Cert.KernelIdeal.Decode

open Cert.KernelIdeal Cert.KernelIdeal.Gen Idealize.ShloMosaic

/-- What a scale code stands for in the kernel: the float whose exponent field is the code. -/
def scaleOf (s : BitVec 8) : EReal := Ideal.ofBits .f32 (s.setWidth 32 <<< 23#32)

/-- A left shift by 23 and a right shift by 5 are in range of the 32-bit word. -/
theorem shl23 (x : BitVec 32) : IntOp.shli .vector x 23#32 = x <<< 23#32 := if_pos (by decide)
theorem shr5 (x : BitVec 32) : IntOp.shrui .vector x 5#32 = x >>> 5#32 := if_pos (by decide)

/-- The padded scale register at a column below 160: the scale of the code there. -/
theorem scales_apply (v1 : Vec Ideal S256x160 .i8) (i : S256x256.Idx) (j : S256x160.Idx)
    (h0 : (j 0 : ℕ) = i 0) (h1 : (j 1 : ℕ) = i 1) : k1_pay1 (F := Ideal) v1 i = scaleOf (v1 j) := by
  refine (concatenate_pair_apply_left (s₁ := S256x160) (s₂ := S256x96) 1 _ _ concatenates_S256x160_S256x96_S256x256_d1 i rfl j (fun b => by
    match b with
    | ⟨0, _⟩ => exact h0
    | ⟨1, _⟩ => exact h1)).trans ?_
  exact congrArg (Ideal.ofBits .f32) (shl23 _)

/-- The lane index of the gather: `lane / 32 + g`, wrapped into 0..127 had it been negative. -/
def gatherIdx (g : BitVec 32) (v9 : IVec S256x128 32) : IVec S256x128 32 :=
  let p := addi (shrui v9 (broadcast S256x128 5#32)) (broadcast S256x128 g)
  select (cmpi .slt p (broadcast S256x128 0#32)) (addi p (broadcast S256x128 128#32)) p

/-- One tile of the decoder: the codes at lane offset `o` times the scales gathered from the register at offset `b`. -/
def gatherTile (b o : ℕ) (g : BitVec 32) (hb : S256x256.Slices ![0, b] S256x128) (ho : S256x5120.Slices ![0, o] S256x128)
    (v0 : Vec Ideal S256x5120 .fp8e4m3) (v8 : FVec Ideal S256x256 .bf16) (v9 : IVec S256x128 32) : FVec Ideal S256x128 .bf16 :=
  mulf (extf .bf16 (extractStridedSlice S256x128 ![0, o] v0 ho) bitsLt_fp8e4m3_bf16)
    (truncf .bf16 (dynamicGather 1 (extf .f32 (extractStridedSlice S256x128 ![0, b] v8 hb) bitsLt_bf16_f32)
      (shapeCast S256x128 (shapeCast S256x128x1 (gatherIdx g v9) shapeCasts_S256x128_S256x128x1)
        shapeCasts_S256x128x1_S256x128)) bitsLt_bf16_f32)

/-- The gather's lane at lane `l`, as a number, for the 32 values of `g` the kernel uses. -/
theorem gatherIdx_nat : ∀ l : Fin 128, ∀ q : Fin 32,
    (let p := BitVec.ofNat 32 l.val >>> 5#32 + BitVec.ofNat 32 (4 * q.val)
     if IntOp.cmpi .slt p 0#32 = 1#1 then p + 128#32 else p).toNat % 128 = 4 * q.val + l.val / 32 := by
  decide +kernel

/-- The same of the vector of indices. -/
theorem gatherIdx_apply (q : Fin 32) (j : S256x128.Idx) :
    (gatherIdx (BitVec.ofNat 32 (4 * q.val)) (iota .tc S256x128 32 [1] iota_S256x128_d1_w32) j).toNat % 128
      = 4 * q.val + (j 1 : ℕ) / 32 := by
  rw [← gatherIdx_nat ⟨(j 1 : ℕ), (j 1).isLt⟩ q]
  have e : shrui (iota .tc S256x128 32 [1] iota_S256x128_d1_w32) (broadcast S256x128 5#32) j
      = BitVec.ofNat 32 (j 1 : ℕ) >>> 5#32 := by
    refine (shr5 _).trans ?_
    rw [show iota .tc S256x128 32 [1] iota_S256x128_d1_w32 j = BitVec.ofNat 32 (j 1 : ℕ) from iota_single_apply _ _ _ _ _ _]
  show (if IntOp.cmpi .slt (shrui (iota .tc S256x128 32 [1] iota_S256x128_d1_w32) (broadcast S256x128 5#32) j
      + BitVec.ofNat 32 (4 * q.val)) 0#32 = 1#1 then _ + 128#32 else _).toNat % 128 = _
  rw [show addi (shrui (iota .tc S256x128 32 [1] iota_S256x128_d1_w32) (broadcast S256x128 5#32))
      (broadcast S256x128 (BitVec.ofNat 32 (4 * q.val))) j
    = BitVec.ofNat 32 (j 1 : ℕ) >>> 5#32 + BitVec.ofNat 32 (4 * q.val) from congrArg (· + _) e, e]

/-- A tile at an index: the code there times the scale of the lane's group of 32. -/
theorem gatherTile_apply (b o : ℕ) (q : Fin 32) (hb : S256x256.Slices ![0, b] S256x128) (ho : S256x5120.Slices ![0, o] S256x128)
    (v0 : Vec Ideal S256x5120 .fp8e4m3) (v8 : FVec Ideal S256x256 .bf16) (j : S256x128.Idx)
    (jc : S256x5120.Idx) (js : S256x256.Idx)
    (hc0 : (jc 0 : ℕ) = j 0) (hc1 : (jc 1 : ℕ) = o + j 1)
    (hs0 : (js 0 : ℕ) = j 0) (hs1 : (js 1 : ℕ) = b + (4 * q.val + (j 1 : ℕ) / 32)) :
    gatherTile b o (BitVec.ofNat 32 (4 * q.val)) hb ho v0 v8 (iota .tc S256x128 32 [1] iota_S256x128_d1_w32) j
      = (show EReal from v0 jc) * (show EReal from v8 js) := by
  unfold gatherTile
  rw [shapeCast_shapeCast]
  refine congrArg₂ (fun a b : EReal => a * b) (?_ : extractStridedSlice S256x128 ![0, o] v0 ho j = v0 jc)
    (?_ : dynamicGather 1 (extractStridedSlice S256x128 ![0, b] v8 hb) _ j = v8 js)
  · exact extractStridedSlice_apply _ _ _ _ _ (fun a => by
      match a with
      | ⟨0, _⟩ => simpa using hc0
      | ⟨1, _⟩ => simpa using hc1)
  · refine extractStridedSlice_apply _ v8 hb _ _ (fun a => ?_)
    match a with
    | ⟨0, _⟩ => simpa using hs0
    | ⟨1, _⟩ => exact hs1.trans (congrArg (b + ·) (gatherIdx_apply q j).symm)

end Cert.KernelIdeal.Decode

end
-- ==== Proof.Block.lean ====
/-
  WHAT ONE GRID POINT OF THE WEIGHT DECODER WRITES, on the extended reals: over its whole 256 × 5120 block, the code
  times the scale of its group of 32 (`decoded`). The 40 stores of the body are 40 instances of the one tile of
  Tile.lean, at lane offsets 0, 128, …, 4992.
-/
module

public import proofs.«01_k».proof.Proof.Tile
public import proofs.«01_k».proof.Proof.Gen.KernelIdeal.Frame.Region1

@[expose] public section

set_option maxRecDepth 16384

noncomputable section

namespace Cert.KernelIdeal.Decode

open Cert.KernelIdeal Cert.KernelIdeal.Gen Idealize.ShloMosaic

/-- The index of the scale that belongs to the weight at `y`: the same row, the column divided by 32. -/
def group (y : S256x5120.Idx) : S256x160.Idx :=
  ix2 (n0 := 256) (n1 := 160) (y 0) ⟨(y 1 : ℕ) / 32, by have h : (y 1 : ℕ) < 5120 := (y 1).isLt; omega⟩

/-- The decoded block: each code times its group's scale. -/
def decoded (x0 : Vec Ideal S256x5120 .fp8e4m3) (x1 : Vec Ideal S256x160 .i8) : Vec Ideal S256x5120 .bf16 :=
  fun y => (show EReal from x0 y) * scaleOf (x1 (group y))

theorem zeros2 : (![0, 0] : Fin 2 → ℕ) = fun _ => 0 := funext fun a => by fin_cases a <;> rfl

/-- Tile `k` of the block: its payload holds the decoded block's values at lanes `128·k + l`. -/
theorem tile_at (k : Fin 40) (x0 : Vec Ideal S256x5120 .fp8e4m3) (x1 : Vec Ideal S256x160 .i8) (y : S256x5120.Idx)
    (hb : S256x256.Slices ![0, 128 * (k.val / 32)] S256x128) (ho : S256x5120.Slices ![0, 128 * k.val] S256x128) :
    View.TileAt (Val := Elt Ideal) (S := S256x5120) (e := .bf16) y ![0, 128 * k.val] S256x128.size
      (gatherTile (128 * (k.val / 32)) (128 * k.val) (BitVec.ofNat 32 (4 * (k.val % 32))) hb ho x0 (k1_pay1 x1)
        (iota .tc S256x128 32 [1] iota_S256x128_d1_w32)) (decoded x0 x1 y) := by
  intro j hj
  have e0 : (y 0 : ℕ) = 0 + (j 0 : ℕ) := hj 0
  have e1 : (y 1 : ℕ) = 128 * k.val + (j 1 : ℕ) := hj 1
  have hk := k.isLt
  have hl : (j 1 : ℕ) < 128 := (j 1).isLt
  have hy : (y 1 : ℕ) < 5120 := (y 1).isLt
  refine (gatherTile_apply _ _ ⟨k.val % 32, by omega⟩ hb ho x0 (k1_pay1 x1) j y
    (ix2 (n0 := 256) (n1 := 256) (y 0) ⟨(y 1 : ℕ) / 32, by omega⟩) (by omega) e1 (by show (y 0 : ℕ) = _; omega)
    (by show (y 1 : ℕ) / 32 = 128 * (k.val / 32) + (4 * (k.val % 32) + (j 1 : ℕ) / 32); omega)).trans ?_
  exact congrArg (fun s : EReal => (show EReal from x0 y) * s)
    (scales_apply x1 _ (group y) rfl rfl)

set_option maxHeartbeats 4000000 in
/-- The body's block: the decoded block. -/
theorem out_eq (x0 : Vec Ideal S256x5120 .fp8e4m3) (x1 : Vec Ideal S256x160 .i8) :
    out1_2 (F := Ideal) x0 x1 = decoded x0 x1 := by
  funext y
  unfold_out out1_2
  rw [View.ld_unit_zero zeros2, View.ld_unit_zero zeros2]
  refine View.canon_eq_of_allAt _ y _ (cover1_2 _ _ _ _ _ _ _ _ _ _ _ _ _ _ _ _ _ _ _ _ _ _ _ _ _ _ _ _ _ _ _ _ _ _ _ _ _ _ _ _ y) ?_
  have tile (k : Fin 40) hb ho := tile_at k x0 x1 y hb ho
  refine View.allAt_cons_unit _ _ _ _ _ (tile 39 (by decide) (by decide)) ?_
  refine View.allAt_cons_unit _ _ _ _ _ (tile 38 (by decide) (by decide)) ?_
  refine View.allAt_cons_unit _ _ _ _ _ (tile 37 (by decide) (by decide)) ?_
  refine View.allAt_cons_unit _ _ _ _ _ (tile 36 (by decide) (by decide)) ?_
  refine View.allAt_cons_unit _ _ _ _ _ (tile 35 (by decide) (by decide)) ?_
  refine View.allAt_cons_unit _ _ _ _ _ (tile 34 (by decide) (by decide)) ?_
  refine View.allAt_cons_unit _ _ _ _ _ (tile 33 (by decide) (by decide)) ?_
  refine View.allAt_cons_unit _ _ _ _ _ (tile 32 (by decide) (by decide)) ?_
  refine View.allAt_cons_unit _ _ _ _ _ (tile 31 (by decide) (by decide)) ?_
  refine View.allAt_cons_unit _ _ _ _ _ (tile 30 (by decide) (by decide)) ?_
  refine View.allAt_cons_unit _ _ _ _ _ (tile 29 (by decide) (by decide)) ?_
  refine View.allAt_cons_unit _ _ _ _ _ (tile 28 (by decide) (by decide)) ?_
  refine View.allAt_cons_unit _ _ _ _ _ (tile 27 (by decide) (by decide)) ?_
  refine View.allAt_cons_unit _ _ _ _ _ (tile 26 (by decide) (by decide)) ?_
  refine View.allAt_cons_unit _ _ _ _ _ (tile 25 (by decide) (by decide)) ?_
  refine View.allAt_cons_unit _ _ _ _ _ (tile 24 (by decide) (by decide)) ?_
  refine View.allAt_cons_unit _ _ _ _ _ (tile 23 (by decide) (by decide)) ?_
  refine View.allAt_cons_unit _ _ _ _ _ (tile 22 (by decide) (by decide)) ?_
  refine View.allAt_cons_unit _ _ _ _ _ (tile 21 (by decide) (by decide)) ?_
  refine View.allAt_cons_unit _ _ _ _ _ (tile 20 (by decide) (by decide)) ?_
  refine View.allAt_cons_unit _ _ _ _ _ (tile 19 (by decide) (by decide)) ?_
  refine View.allAt_cons_unit _ _ _ _ _ (tile 18 (by decide) (by decide)) ?_
  refine View.allAt_cons_unit _ _ _ _ _ (tile 17 (by decide) (by decide)) ?_
  refine View.allAt_cons_unit _ _ _ _ _ (tile 16 (by decide) (by decide)) ?_
  refine View.allAt_cons_unit _ _ _ _ _ (tile 15 (by decide) (by decide)) ?_
  refine View.allAt_cons_unit _ _ _ _ _ (tile 14 (by decide) (by decide)) ?_
  refine View.allAt_cons_unit _ _ _ _ _ (tile 13 (by decide) (by decide)) ?_
  refine View.allAt_cons_unit _ _ _ _ _ (tile 12 (by decide) (by decide)) ?_
  refine View.allAt_cons_unit _ _ _ _ _ (tile 11 (by decide) (by decide)) ?_
  refine View.allAt_cons_unit _ _ _ _ _ (tile 10 (by decide) (by decide)) ?_
  refine View.allAt_cons_unit _ _ _ _ _ (tile 9 (by decide) (by decide)) ?_
  refine View.allAt_cons_unit _ _ _ _ _ (tile 8 (by decide) (by decide)) ?_
  refine View.allAt_cons_unit _ _ _ _ _ (tile 7 (by decide) (by decide)) ?_
  refine View.allAt_cons_unit _ _ _ _ _ (tile 6 (by decide) (by decide)) ?_
  refine View.allAt_cons_unit _ _ _ _ _ (tile 5 (by decide) (by decide)) ?_
  refine View.allAt_cons_unit _ _ _ _ _ (tile 4 (by decide) (by decide)) ?_
  refine View.allAt_cons_unit _ _ _ _ _ (tile 3 (by decide) (by decide)) ?_
  refine View.allAt_cons_unit _ _ _ _ _ (tile 2 (by decide) (by decide)) ?_
  refine View.allAt_cons_unit _ _ _ _ _ (tile 1 (by decide) (by decide)) ?_
  refine View.allAt_cons_unit _ _ _ _ _ (tile 0 (by decide) (by decide)) ?_
  exact View.allAt_nil y _

end Cert.KernelIdeal.Decode

end
-- ==== Proof.Weights.lean ====
/-
  WHAT THE WEIGHT DECODER LEAVES IN ITS RESULT ARRAY, on the extended reals: at every index the code there times the
  scale of its group of 32 (`decodedAll`). Grid point `t` fetches and writes rows `256·t … 256·t + 255`; the twenty
  blocks cover the 5120 rows.
-/
module

public import proofs.«01_k».proof.Proof.Block
public import Idealize.ShloMosaic.Lib.Pipeline.Value

@[expose] public section

set_option maxRecDepth 16384

noncomputable section

namespace Cert.KernelIdeal.Decode

open Cert.KernelIdeal Cert.KernelIdeal.Gen Idealize.ShloMosaic Idealize.ShloMosaic.TcCoe
open Idealize.ShloMosaic.Pipeline (Dat)

/-- The index of the scale that belongs to the weight at `y`, in the whole arrays. -/
def groupAll (y : S5120x5120.Idx) : S5120x160.Idx :=
  ix2 (n0 := 5120) (n1 := 160) (y 0) ⟨(y 1 : ℕ) / 32, by have h : (y 1 : ℕ) < 5120 := (y 1).isLt; omega⟩

/-- The decoded weights: each code times its group's scale. -/
def decodedAll (wc : Vec Ideal S5120x5120 .fp8e4m3) (ws : Vec Ideal S5120x160 .i8) : Vec Ideal S5120x5120 .bf16 :=
  fun y => (show EReal from wc y) * scaleOf (ws (groupAll y))

/-- The three windows' block indices at point `t`: row block `t`, the one column block. -/
theorem index1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0) :=
  (by decide +kernel : ∀ t : Fin grid1.N, _)

variable (V : (c : Dev nD) → (b : Ref sig .tc) → Buf (Elt Ideal) ((c : Thread nD τ).loc b))

/-- What point `t` writes back is its block of the decoded weights. -/
theorem flushed1_eq (c : Dev nD) (t : Fin cfg1.N) : (dat1 V c).flushed 2 t
    = ((cfg1.win 2).blk t).view.read (Elt Ideal) (decodedAll (V c main_arg1) (V c main_arg2)) := by
  show (cfg1.win 2).cut (grid1.coords t) ((dat1 V c).after 2 t) = _
  rw [after1_2, out_eq]
  obtain ⟨⟨a0, a1⟩, ⟨b0, b1⟩, ⟨c0, c1⟩⟩ := index1 t
  funext j
  refine congrArg₂ (fun a b : EReal => a * b) (congrArg (V c main_arg1) (?_ : ((cfg1.win 0).blk t).view.emb j = ((cfg1.win 2).blk t).view.emb j))
    (congrArg (fun i => scaleOf (V c main_arg2 i)) (?_ : ((cfg1.win 1).blk t).view.emb (group j) = groupAll (((cfg1.win 2).blk t).view.emb j)))
  · funext a; apply Fin.ext
    match a with
    | ⟨0, _⟩ => show win1_0.index t (0 : Fin 2) * 256 + 1 * (j 0).val = win1_2.index t (0 : Fin 2) * 256 + 1 * (j 0).val; omega
    | ⟨1, _⟩ => show win1_0.index t (1 : Fin 2) * 5120 + 1 * (j 1).val = win1_2.index t (1 : Fin 2) * 5120 + 1 * (j 1).val; omega
  · funext a; apply Fin.ext
    match a with
    | ⟨0, _⟩ => show win1_1.index t (0 : Fin 2) * 256 + 1 * (j 0).val = win1_2.index t (0 : Fin 2) * 256 + 1 * (j 0).val; omega
    | ⟨1, _⟩ =>
      show win1_1.index t (1 : Fin 2) * 160 + 1 * ((j 1).val / 32) = (win1_2.index t (1 : Fin 2) * 5120 + 1 * (j 1).val) / 32
      rw [b1, c1]; omega

/-- Every index of the result array is in some point's block: that of its row block. -/
theorem cover1 (i : S5120x5120.Idx) :
    ∃ t : Fin cfg1.N, (cfg1.win 2).flush t = true ∧ i ∈ ((cfg1.win 2).blk t).view.set := by
  have h0 : (i 0 : ℕ) < 5120 := (i 0).isLt
  have h1 : (i 1 : ℕ) < 5120 := (i 1).isLt
  have hN : cfg1.N = 20 := N_1
  let t : Fin cfg1.N := ⟨(i 0 : ℕ) / 256, by omega⟩
  refine ⟨t, flush1_2 t, ?_⟩
  obtain ⟨-, -, ⟨c0, c1⟩⟩ := index1 t
  show i ∈ ((View.whole main_v53).slice (win1_2.rect t)).set
  rw [View.set_slice_whole, Rect.mem_set_unit]
  intro a
  match a with
  | ⟨0, _⟩ =>
    show win1_2.index t (0 : Fin 2) * 256 ≤ (i 0 : ℕ) ∧ (i 0 : ℕ) < win1_2.index t (0 : Fin 2) * 256 + 256
    rw [c0]; show (i 0 : ℕ) / 256 * 256 ≤ _ ∧ _ < (i 0 : ℕ) / 256 * 256 + 256; omega
  | ⟨1, _⟩ =>
    show win1_2.index t (1 : Fin 2) * 5120 ≤ (i 1 : ℕ) ∧ (i 1 : ℕ) < win1_2.index t (1 : Fin 2) * 5120 + 5120
    rw [c1]; omega

/-- The decoder's result array after its last point: the decoded weights. -/
theorem final1 (c : Dev nD) : (dat1 V c).arrAt 2 cfg1.N = decodedAll (V c main_arg1) (V c main_arg2) :=
  (dat1 V c).arrAt_eq_of_cover 2 (decodedAll (V c main_arg1) (V c main_arg2)) (fun t _ => flushed1_eq V c t) cover1

end Cert.KernelIdeal.Decode

end
-- ==== Proof.Product.lean ====
/-
  WHAT THE MATRIX PRODUCT LEAVES IN ITS RESULT ARRAY, on the extended reals: at `(r, n)` the sum over all 5120
  positions `k` of `x (r, k) · w (n, k)`, plus the bias of column `n` (`product`). A grid point `(i, j)` multiplies
  1024 rows of `x` by 1024 rows of `w` over the whole contracted axis; the 4 × 5 blocks cover the result.
-/
module

public import proofs.«01_k».proof.Proof.Gen.KernelIdeal.Frame.Region2
public import Idealize.ShloMosaic.Lib.Pipeline.Value
public import Idealize.ShloMosaic.Lib.Pipeline.ValueKit
public import Idealize.ShloMosaic.Lib.MatmulPlain

@[expose] public section

set_option maxRecDepth 16384

noncomputable section

namespace Cert.KernelIdeal.Product

open Cert.KernelIdeal Cert.KernelIdeal.Gen Idealize.ShloMosaic Idealize.ShloMosaic.TcCoe
open Idealize.ShloMosaic.Pipeline (Dat)

theorem zeros2 : (![0, 0] : Fin 2 → ℕ) = fun _ => 0 := funext fun a => by fin_cases a <;> rfl

/-- The block product, at an index of the block. -/
theorem payload_apply (x w : Vec Ideal S1024x5120 .bf16) (b : Vec Ideal S1x1024 .f32) (j : S1024x1024.Idx) :
    k2_pay1 (F := Ideal) x w b j
      = (∑ k : Fin 5120, (show EReal from x (ix2 (n0 := 1024) (n1 := 5120) (j 0) k)) * (show EReal from w (ix2 (n0 := 1024) (n1 := 5120) (j 1) k)))
        + (show EReal from b (ix2 (n0 := 1) (n1 := 1024) 0 (j 1))) := by
  have ej : (ValueIdx.ix2 (j 0) (j 1) : S1024x1024.Idx) = j := funext fun a => match a with | ⟨0, _⟩ => rfl | ⟨1, _⟩ => rfl
  unfold k2_pay1
  rw [shapeCast_self, shapeCast_self, shapeCast_self]
  refine congrArg₂ (fun a b : EReal => a + b) ?_ ?_
  · have h := Ideal.matmul_transposedRhs_apply (M := 1024) (K := 5120) (N := 1024) (φ₁ := .bf16) (φ₂ := .bf16) none x w
      (constant (F := Ideal) S1024x1024 .f32 0x00000000#32) (j 0) (j 1)
    rw [ej, show (constant (F := Ideal) S1024x1024 .f32 0x00000000#32) j = (0 : EReal) from Ideal.ofBits_zero_f32, zero_add] at h
    exact h
  · exact broadcastTo_apply b _ j _ fun a => match a with | ⟨0, _⟩ => rfl | ⟨1, _⟩ => rfl

/-- The product plus the bias, over the whole arrays. -/
def product (x : Vec Ideal S4096x5120 .bf16) (w : Vec Ideal S5120x5120 .bf16) (b : Vec Ideal S1x5120 .f32) : Vec Ideal S4096x5120 .bf16 :=
  fun i => (∑ k : Fin 5120, (show EReal from x (ix2 (n0 := 4096) (n1 := 5120) (i 0) k)) * (show EReal from w (ix2 (n0 := 5120) (n1 := 5120) (i 1) k)))
    + (show EReal from b (ix2 (n0 := 1) (n1 := 5120) 0 (i 1)))

/-- The four windows' block indices at point `t = 5·i + j`. -/
theorem index2 : ∀ t : Fin cfg2.N,
    (win2_0.index t (0 : Fin 2) = t.val / 5 ∧ win2_0.index t (1 : Fin 2) = 0)
    ∧ (win2_1.index t (0 : Fin 2) = t.val % 5 ∧ win2_1.index t (1 : Fin 2) = 0)
    ∧ (win2_2.index t (0 : Fin 2) = 0 ∧ win2_2.index t (1 : Fin 2) = t.val % 5)
    ∧ (win2_3.index t (0 : Fin 2) = t.val / 5 ∧ win2_3.index t (1 : Fin 2) = t.val % 5) :=
  (by decide +kernel : ∀ t : Fin grid2.N, _)

variable (V : (c : Dev nD) → (b : Ref sig .tc) → Buf (Elt Ideal) ((c : Thread nD τ).loc b))

/-- What point `t` writes back is its block of the product. -/
theorem flushed2_eq (c : Dev nD) (t : Fin cfg2.N) : (dat2 V c).flushed 3 t
    = ((cfg2.win 3).blk t).view.read (Elt Ideal) (product (V c main_v52_2) (V c main_v53) (V c main_v54)) := by
  show (cfg2.win 3).cut (grid2.coords t) ((dat2 V c).after 3 t) = _
  rw [after2_3]
  unfold out2_3
  rw [View.canon_unit_zero zeros2, View.ld_unit_zero zeros2, View.ld_unit_zero zeros2, View.ld_unit_zero zeros2]
  obtain ⟨⟨a0, a1⟩, ⟨b0, b1⟩, ⟨d0, d1⟩, ⟨e0, e1⟩⟩ := index2 t
  funext j
  refine (payload_apply _ _ _ j).trans ?_
  refine congrArg₂ (fun a b : EReal => a + b) (Finset.sum_congr rfl fun k _ => congrArg₂ (fun a b : EReal => a * b)
    (congrArg (V c main_v52_2) (?_ : ((cfg2.win 0).blk t).view.emb (ix2 (n0 := 1024) (n1 := 5120) (j 0) k)
      = ix2 (n0 := 4096) (n1 := 5120) (((cfg2.win 3).blk t).view.emb j 0) k))
    (congrArg (V c main_v53) (?_ : ((cfg2.win 1).blk t).view.emb (ix2 (n0 := 1024) (n1 := 5120) (j 1) k)
      = ix2 (n0 := 5120) (n1 := 5120) (((cfg2.win 3).blk t).view.emb j 1) k)))
    (congrArg (V c main_v54) (?_ : ((cfg2.win 2).blk t).view.emb (ix2 (n0 := 1) (n1 := 1024) 0 (j 1))
      = ix2 (n0 := 1) (n1 := 5120) 0 (((cfg2.win 3).blk t).view.emb j 1)))
  · funext a; apply Fin.ext
    match a with
    | ⟨0, _⟩ => show win2_0.index t (0 : Fin 2) * 1024 + 1 * (j 0).val = win2_3.index t (0 : Fin 2) * 1024 + 1 * (j 0).val; omega
    | ⟨1, _⟩ => show win2_0.index t (1 : Fin 2) * 5120 + 1 * k.val = k.val; omega
  · funext a; apply Fin.ext
    match a with
    | ⟨0, _⟩ => show win2_1.index t (0 : Fin 2) * 1024 + 1 * (j 1).val = win2_3.index t (1 : Fin 2) * 1024 + 1 * (j 1).val; omega
    | ⟨1, _⟩ => show win2_1.index t (1 : Fin 2) * 5120 + 1 * k.val = k.val; omega
  · funext a; apply Fin.ext
    match a with
    | ⟨0, _⟩ => show win2_2.index t (0 : Fin 2) * 1 + 1 * 0 = 0; omega
    | ⟨1, _⟩ => show win2_2.index t (1 : Fin 2) * 1024 + 1 * (j 1).val = win2_3.index t (1 : Fin 2) * 1024 + 1 * (j 1).val; omega

/-- Every index of the result array is in some point's block. -/
theorem cover2 (i : S4096x5120.Idx) :
    ∃ t : Fin cfg2.N, (cfg2.win 3).flush t = true ∧ i ∈ ((cfg2.win 3).blk t).view.set := by
  have h0 : (i 0 : ℕ) < 4096 := (i 0).isLt
  have h1 : (i 1 : ℕ) < 5120 := (i 1).isLt
  have hN : cfg2.N = 20 := N_2
  let t : Fin cfg2.N := ⟨5 * ((i 0 : ℕ) / 1024) + (i 1 : ℕ) / 1024, by omega⟩
  have ht : t.val = 5 * ((i 0 : ℕ) / 1024) + (i 1 : ℕ) / 1024 := rfl
  refine ⟨t, flush2_3 t, ?_⟩
  obtain ⟨-, -, -, ⟨e0, e1⟩⟩ := index2 t
  show i ∈ ((View.whole main_v55).slice (win2_3.rect t)).set
  rw [View.set_slice_whole, Rect.mem_set_unit]
  intro a
  match a with
  | ⟨0, _⟩ =>
    show win2_3.index t (0 : Fin 2) * 1024 ≤ (i 0 : ℕ) ∧ (i 0 : ℕ) < win2_3.index t (0 : Fin 2) * 1024 + 1024
    rw [e0]; omega
  | ⟨1, _⟩ =>
    show win2_3.index t (1 : Fin 2) * 1024 ≤ (i 1 : ℕ) ∧ (i 1 : ℕ) < win2_3.index t (1 : Fin 2) * 1024 + 1024
    rw [e1]; omega

/-- The product's result array after its last point. -/
theorem final2 (c : Dev nD) : (dat2 V c).arrAt 3 cfg2.N = product (V c main_v52_2) (V c main_v53) (V c main_v54) :=
  (dat2 V c).arrAt_eq_of_cover 3 (product (V c main_v52_2) (V c main_v53) (V c main_v54)) (fun t _ => flushed2_eq V c t) cover2

end Cert.KernelIdeal.Product

end
-- ==== Proof.Scale.lean ====
/-
  THE SCALE OF A GROUP, READ TWO WAYS. The decoder builds the f32 whose exponent field is the scale's code `s`; the
  plain formula raises two to the power `s - 127`. For a code from 1 to 254 both are the real number `2 ^ (s - 127)`,
  which is positive and finite (`scaleOf_eq`, `powScale_eq`). At the code 0 the first gives 0, at 255 it gives +∞.
-/
module

public import proofs.«01_k».proof.Proof.Tile
public import Idealize.ShloMosaic.PureOps.Ideal.Laws

@[expose] public section

noncomputable section

namespace Cert.Scale

open Idealize.ShloMosaic Cert.KernelIdeal.Decode

/-- Two to the power `s - 127`, a real number. -/
def twoPow (s : BitVec 8) : ℝ := (2 : ℝ) ^ ((s.toNat : ℤ) - 127)

/-- The index of a one-axis array at position `n`. -/
def at1 (n : Fin 5120) : Cert.KernelIdeal.S5120.Idx := fun a => match a with | ⟨0, _⟩ => n

theorem twoPow_pos (s : BitVec 8) : 0 < twoPow s := zpow_pos (by norm_num) _

/-- The fields of the f32 built from a code: sign bit clear, exponent the code, fraction zero. -/
theorem fields : ∀ s : BitVec 8,
    ((s.setWidth 32 <<< 23#32).extractLsb' 31 1 == 1#1) = false
    ∧ ((s.setWidth 32 <<< 23#32).extractLsb' 23 8).toNat = s.toNat
    ∧ ((s.setWidth 32 <<< 23#32).extractLsb' 0 23).toNat = 0 := by decide +kernel

/-- The f32 with exponent field `s` is `2 ^ (s - 127)`. -/
theorem scaleOf_eq (s : BitVec 8) (h1 : 1 ≤ s.toNat) (h2 : s.toNat ≤ 254) : scaleOf s = ((twoPow s : ℝ) : EReal) := by
  obtain ⟨hs, he, hf⟩ := fields s
  show Ideal.ieee 8 23 _ = _
  unfold Ideal.ieee
  simp only [hs, he, hf, Nat.reduceAdd, Bool.false_eq_true, if_false]
  rw [if_neg (by omega), if_neg (by omega)]
  refine congrArg _ ?_
  have e : ((s.toNat : ℤ) - (2 ^ (8 - 1) - 1) - (23 : ℕ)) = ((s.toNat : ℤ) - 127) + (-23) := by norm_num; ring
  rw [e, zpow_add₀ (by norm_num : (2 : ℝ) ≠ 0)]
  show _ = (2 : ℝ) ^ ((s.toNat : ℤ) - 127)
  generalize (2 : ℝ) ^ ((s.toNat : ℤ) - 127) = z
  norm_num
  ring

/-- The difference of the 32-bit words, read as a signed number. -/
theorem exponent : ∀ s : BitVec 8, (s.setWidth 32 - 127#32).toInt = (s.toNat : ℤ) - 127 := by decide +kernel

/-- Two raised to the code's difference with 127 is `2 ^ (s - 127)`. -/
theorem powScale_eq (s : BitVec 8) :
    (FloatOps.hostPowf (F := Ideal) (φ := .f32) (FloatOps.ofBits .f32 0x40000000#32) (FloatOps.sitofp .f32 (IntOp.subi (s.setWidth 32) 127#32)) : EReal)
      = ((twoPow s : ℝ) : EReal) := by
  have h2 : (FloatOps.ofBits (F := Ideal) .f32 0x40000000#32 : EReal) = ((2 : ℝ) : EReal) := by
    show Ideal.ieee 8 23 (0x40000000#32) = _
    unfold Ideal.ieee
    simp only [show ((0x40000000#32).extractLsb' 31 1 == 1#1) = false from rfl,
      show ((0x40000000#32).extractLsb' 23 8).toNat = 128 from rfl, show ((0x40000000#32).extractLsb' 0 23).toNat = 0 from rfl,
      Nat.reduceAdd, Bool.false_eq_true, if_false]
    rw [if_neg (by norm_num), if_neg (by norm_num)]
    refine congrArg _ ?_
    norm_num
  have he : (FloatOps.sitofp (F := Ideal) .f32 (IntOp.subi (s.setWidth 32) 127#32) : EReal) = ((((s.toNat : ℤ) - 127 : ℤ) : ℝ) : EReal) := by
    show ((((s.setWidth 32 - 127#32).toInt : ℤ) : ℝ) : EReal) = _
    rw [exponent]
  rw [h2, he]
  show Ideal.pow ((2 : ℝ) : EReal) _ = _
  rw [Ideal.pow_coe_coe]
  exact congrArg (fun r : ℝ => (r : EReal)) (Real.rpow_intCast 2 _)

end Cert.Scale

end
-- ==== Proof.Quant.Merge.lean ====
/-
  ONE STEP OF THE QUANTISER'S MAXIMUM, on the extended reals.

  The quantiser finds the greatest magnitude of each 32 consecutive values of a row by five merges. A merge takes two
  tiles of 128 lanes and one bit of the lane number: at a lane with the bit clear it keeps the maximum of the FIRST
  tile's two lanes that differ in that bit only, at a lane with the bit set that of the SECOND tile's. Here a merge is
  stated once, for any number of rows and any bit (`mergeMax`), and read at an index (`mergeMax_apply`). `Covers` says
  that a tile holds, at each lane, the maximum of a family over the lanes that agree with it outside a mask of bits,
  and `Covers.merge` that a merge adds its bit to the mask.
-/
module

public import proofs.«01_k».proof.Proof.Gen.KernelIdeal
public import Idealize.ShloMosaic.Lib.Pipeline.Value
public import Idealize.ShloMosaic.Lib.Pipeline.ValueKit
public import Idealize.ShloMosaic.Lib.ValueIdxCore

@[expose] public section

set_option maxRecDepth 16384

noncomputable section

namespace Cert.KernelIdeal.Quantise

open Cert.KernelIdeal Cert.KernelIdeal.Gen Idealize.ShloMosaic

/-- `r` rows of 128 lanes. -/
abbrev lanes (r : ℕ) : Shape := ⟨2, ![r, 128]⟩

/-- The index at row `i`, lane `l`. -/
abbrev at2 {r : ℕ} (i : Fin r) (l : Fin 128) : (lanes r).Idx := ix2 (n0 := r) (n1 := 128) i l

/-- A lane with bit `n` of its number flipped. -/
def flip (n : Fin 5) (l : Fin 128) : Fin 128 := ⟨(l.val ^^^ 2 ^ n.val) % 128, Nat.mod_lt _ (by decide)⟩

/-- Bit `n` of a lane's number. -/
def bit (n : Fin 5) (l : Fin 128) : ℕ := l.val / 2 ^ n.val % 2

/-- The lane number of each lane with `b` flipped, wrapped into 0..127 had it been negative. -/
def otherLane (r : ℕ) (b : BitVec 32) (hi : (lanes r).Iotas .tc 32 [(1 : Fin 2)]) : IVec (lanes r) 32 :=
  let other := xori (iota .tc (lanes r) 32 [(1 : Fin 2)] hi) (broadcast (lanes r) b)
  select (cmpi .slt other (broadcast (lanes r) 0#32)) (addi other (broadcast (lanes r) 128#32)) other

/-- Whether bit `b` of each lane's number is clear. -/
def lowLane (r : ℕ) (b : BitVec 32) (hi : (lanes r).Iotas .tc 32 [(1 : Fin 2)]) : IVec (lanes r) 1 :=
  cmpi .eq (andi (iota .tc (lanes r) 32 [(1 : Fin 2)] hi) (broadcast (lanes r) b)) (broadcast (lanes r) 0#32)

/-- One merge: tiles `a` and `b`, bit `n` of the lane number. -/
def mergeMax (r : ℕ) (n : BitVec 32) (hi : (lanes r).Iotas .tc 32 [(1 : Fin 2)])
    (h1 : (lanes r).ShapeCasts ⟨3, ![r, 128, 1]⟩) (h2 : Shape.ShapeCasts ⟨3, ![r, 128, 1]⟩ (lanes r))
    (a b : FVec Ideal (lanes r) .f32) : FVec Ideal (lanes r) .f32 :=
  extf .f32 (maximumf (truncf .bf16 (select (lowLane r n hi) a b) bitsLt_bf16_f32)
    (truncf .bf16 (dynamicGather (1 : Fin 2) (select (lowLane r n hi) b a)
      (shapeCast (lanes r) (shapeCast ⟨3, ![r, 128, 1]⟩ (otherLane r n hi) h1) h2)) bitsLt_bf16_f32)) bitsLt_bf16_f32

theorem low_nat : ∀ n : Fin 5, ∀ l : Fin 128,
    IntOp.cmpi .eq (BitVec.ofNat 32 l.val &&& BitVec.ofNat 32 (2 ^ n.val)) 0#32 = if bit n l = 0 then 1#1 else 0#1 := by
  decide +kernel

theorem other_nat : ∀ n : Fin 5, ∀ l : Fin 128,
    (let p := BitVec.ofNat 32 l.val ^^^ BitVec.ofNat 32 (2 ^ n.val)
     if IntOp.cmpi .slt p 0#32 = 1#1 then p + 128#32 else p).toNat % 128 = (flip n l).val := by
  decide +kernel

theorem bit_flip : ∀ n : Fin 5, ∀ l : Fin 128, (bit n (flip n l) = 0 ↔ bit n l ≠ 0) := by decide +kernel

theorem lowLane_apply (r : ℕ) (n : Fin 5) (hi : (lanes r).Iotas .tc 32 [(1 : Fin 2)]) (i : Fin r) (l : Fin 128) :
    lowLane r (BitVec.ofNat 32 (2 ^ n.val)) hi (at2 i l) = if bit n l = 0 then 1#1 else 0#1 := by
  rw [← low_nat n l]
  exact congrArg (fun p => IntOp.cmpi .eq (p &&& BitVec.ofNat 32 (2 ^ n.val)) 0#32)
    (iota_single_apply .tc (lanes r) 32 (1 : Fin 2) hi (at2 i l))

theorem otherLane_apply (r : ℕ) (n : Fin 5) (hi : (lanes r).Iotas .tc 32 [(1 : Fin 2)]) (i : Fin r) (l : Fin 128) :
    (otherLane r (BitVec.ofNat 32 (2 ^ n.val)) hi (at2 i l)).toNat % 128 = (flip n l).val := by
  rw [← other_nat n l]
  exact congrArg (fun q : BitVec 32 => (let p := q ^^^ BitVec.ofNat 32 (2 ^ n.val)
     if IntOp.cmpi .slt p 0#32 = 1#1 then p + 128#32 else p).toNat % 128)
    (iota_single_apply .tc (lanes r) 32 (1 : Fin 2) hi (at2 i l))

theorem select_low {r : ℕ} (n : Fin 5) (hi : (lanes r).Iotas .tc 32 [(1 : Fin 2)]) (a b : FVec Ideal (lanes r) .f32)
    (i : Fin r) (l : Fin 128) :
    select (lowLane r (BitVec.ofNat 32 (2 ^ n.val)) hi) a b (at2 i l)
      = if bit n l = 0 then a (at2 i l) else b (at2 i l) := by
  show Scalar.select (lowLane r (BitVec.ofNat 32 (2 ^ n.val)) hi (at2 i l)) _ _ = _
  rw [lowLane_apply]
  by_cases h : bit n l = 0
  · rw [if_pos h, if_pos h]; rfl
  · rw [if_neg h, if_neg h]; rfl

/-- A merge at row `i`, lane `l`: the maximum of one tile's two lanes that differ in bit `n` only, of the first tile
    where the bit is clear and of the second where it is set. -/
theorem mergeMax_apply {r : ℕ} (n : Fin 5) (hi : (lanes r).Iotas .tc 32 [(1 : Fin 2)])
    (h1 : (lanes r).ShapeCasts ⟨3, ![r, 128, 1]⟩) (h2 : Shape.ShapeCasts ⟨3, ![r, 128, 1]⟩ (lanes r))
    (a b : FVec Ideal (lanes r) .f32) (i : Fin r) (l : Fin 128) :
    mergeMax r (BitVec.ofNat 32 (2 ^ n.val)) hi h1 h2 a b (at2 i l)
      = if bit n l = 0 then max (a (at2 i l) : EReal) (a (at2 i (flip n l)))
        else max (b (at2 i l) : EReal) (b (at2 i (flip n l))) := by
  unfold mergeMax
  rw [shapeCast_shapeCast]
  have e : dynamicGather (1 : Fin 2) (select (lowLane r (BitVec.ofNat 32 (2 ^ n.val)) hi) b a)
      (otherLane r (BitVec.ofNat 32 (2 ^ n.val)) hi) (at2 i l)
      = if bit n l = 0 then a (at2 i (flip n l)) else b (at2 i (flip n l)) := by
    have hidx : dynamicGather (1 : Fin 2) (select (lowLane r (BitVec.ofNat 32 (2 ^ n.val)) hi) b a)
        (otherLane r (BitVec.ofNat 32 (2 ^ n.val)) hi) (at2 i l)
        = select (lowLane r (BitVec.ofNat 32 (2 ^ n.val)) hi) b a (at2 i (flip n l)) := by
      refine congrArg (select (lowLane r (BitVec.ofNat 32 (2 ^ n.val)) hi) b a) (Shape.idx_ext₂ rfl ?_)
      exact otherLane_apply r n hi i l
    rw [hidx, select_low]
    by_cases h : bit n l = 0
    · rw [if_pos h, if_neg (fun h' => (bit_flip n l).1 h' h)]
    · rw [if_neg h, if_pos ((bit_flip n l).2 h)]
  refine (congrArg₂ (fun x y : EReal => max x y) (select_low n hi a b i l) e).trans ?_
  by_cases h : bit n l = 0
  · simp only [if_pos h]
  · simp only [if_neg h]

/-- Two lanes agree outside the bits of `m`. -/
def Same (m : ℕ) (p l : Fin 128) : Prop := p.val ||| m = l.val ||| m

instance (m : ℕ) (p l : Fin 128) : Decidable (Same m p l) := inferInstanceAs (Decidable (_ = _))

/-- The mask of the merges before the one on bit `n`: the bits above it, up to bit 4. -/
def maskAbove (n : Fin 5) : ℕ := 32 - 2 ^ (n.val + 1)

theorem same_step : ∀ n : Fin 5, ∀ p l : Fin 128,
    (Same (maskAbove n + 2 ^ n.val) p l ↔ Same (maskAbove n) p l ∨ Same (maskAbove n) p (flip n l)) := by
  decide +kernel

/-- Tile `v` holds at row `i`, lane `l` the maximum of `T i l p` over the lanes `p` that agree with `l` outside `m`. -/
def Covers {r : ℕ} (m : ℕ) (v : FVec Ideal (lanes r) .f32) (T : ℕ → Fin 128 → Fin 128 → EReal) : Prop :=
  ∀ (i : Fin r) (l : Fin 128) (z : EReal), (v (at2 i l) : EReal) ≤ z ↔ ∀ p : Fin 128, Same m p l → T i.val l p ≤ z

/-- A merge on bit `n` of two tiles that cover families not looking at that bit. -/
theorem Covers.merge {r : ℕ} (n : Fin 5) (hi : (lanes r).Iotas .tc 32 [(1 : Fin 2)])
    (h1 : (lanes r).ShapeCasts ⟨3, ![r, 128, 1]⟩) (h2 : Shape.ShapeCasts ⟨3, ![r, 128, 1]⟩ (lanes r))
    {a b : FVec Ideal (lanes r) .f32} {A B T : ℕ → Fin 128 → Fin 128 → EReal}
    (ha : Covers (maskAbove n) a A) (hb : Covers (maskAbove n) b B)
    (hA : ∀ i l p, A i (flip n l) p = A i l p) (hB : ∀ i l p, B i (flip n l) p = B i l p)
    (hT : ∀ i l p, T i l p = if bit n l = 0 then A i l p else B i l p) :
    Covers (maskAbove n + 2 ^ n.val) (mergeMax r (BitVec.ofNat 32 (2 ^ n.val)) hi h1 h2 a b) T := by
  intro i l z
  rw [mergeMax_apply]
  simp only [same_step, hT]
  have key : ∀ (v : FVec Ideal (lanes r) .f32) (V : ℕ → Fin 128 → Fin 128 → EReal), Covers (maskAbove n) v V →
      (∀ i l p, V i (flip n l) p = V i l p) →
      (max (v (at2 i l) : EReal) (v (at2 i (flip n l))) ≤ z ↔
        ∀ p : Fin 128, Same (maskAbove n) p l ∨ Same (maskAbove n) p (flip n l) → V i.val l p ≤ z) := by
    intro v V hv hV
    rw [max_le_iff, hv i l z, hv i (flip n l) z]
    simp only [hV]
    exact ⟨fun h p hp => hp.elim (h.1 p) (h.2 p), fun h => ⟨fun p hp => h p (Or.inl hp), fun p hp => h p (Or.inr hp)⟩⟩
  by_cases h : bit n l = 0
  · simp only [if_pos h]; exact key a A ha hA
  · simp only [if_neg h]; exact key b B hb hB

end Cert.KernelIdeal.Quantise

end
-- ==== Proof.Quant.Level.lean ====
/-
  THE GREATEST MAGNITUDE OF EACH GROUP OF 32 CONSECUTIVE VALUES OF A ROW, as the quantiser computes it on the extended
  reals. A block of 256 rows × 5120 columns is 40 tiles of 128 lanes. Three merges over pairs of tiles (on the bits 16,
  8 and 4 of the lane number) leave 5 tiles, two over the halves of their rows (on the bits 2 and 1) leave 64 rows each
  (`level1`). At row `r`, lane `l` the result is the greatest magnitude of group `l / 32` of the tile and of the row that
  the five low bits of `l` name (`level1_eq`).
-/
module

public import proofs.«01_k».proof.Proof.Quant.Merge

@[expose] public section

set_option maxRecDepth 16384

noncomputable section

namespace Cert.KernelIdeal.Quantise

open Cert.KernelIdeal Cert.KernelIdeal.Gen Idealize.ShloMosaic

theorem slices_tile (j : Fin 40) : S256x5120.Slices ![0, 128 * j.val] S256x128 := by revert j; decide
theorem slices_half (a : Fin 2) : S256x128.Slices ![128 * a.val, 0] S128x128 := by revert a; decide
theorem slices_quarter (a : Fin 2) : S128x128.Slices ![64 * a.val, 0] S64x128 := by revert a; decide

/-- Tile `j` of the block. -/
def tile (x : FVec Ideal S256x5120 .bf16) (j : Fin 40) : FVec Ideal S256x128 .bf16 :=
  extractStridedSlice S256x128 ![0, 128 * j.val] (shapeCast S256x5120 x shapeCasts_S256x5120_S256x5120) (slices_tile j)

/-- Its magnitudes. -/
def absTile (x : FVec Ideal S256x5120 .bf16) (j : Fin 40) : FVec Ideal S256x128 .f32 :=
  extf .f32 (absf (tile x j)) bitsLt_bf16_f32

/-- After the merges on bit 16, on bits 16 and 8, on bits 16, 8 and 4. -/
def level16 (x : FVec Ideal S256x5120 .bf16) (i : Fin 20) : FVec Ideal (lanes 256) .f32 :=
  mergeMax 256 16#32 iota_S256x128_d1_w32 shapeCasts_S256x128_S256x128x1 shapeCasts_S256x128x1_S256x128
    (absTile x ⟨i.val, by omega⟩) (absTile x ⟨i.val + 20, by omega⟩)
def level8 (x : FVec Ideal S256x5120 .bf16) (i : Fin 10) : FVec Ideal (lanes 256) .f32 :=
  mergeMax 256 8#32 iota_S256x128_d1_w32 shapeCasts_S256x128_S256x128x1 shapeCasts_S256x128x1_S256x128
    (level16 x ⟨i.val, by omega⟩) (level16 x ⟨i.val + 10, by omega⟩)
def level4 (x : FVec Ideal S256x5120 .bf16) (i : Fin 5) : FVec Ideal (lanes 256) .f32 :=
  mergeMax 256 4#32 iota_S256x128_d1_w32 shapeCasts_S256x128_S256x128x1 shapeCasts_S256x128x1_S256x128
    (level8 x ⟨i.val, by omega⟩) (level8 x ⟨i.val + 5, by omega⟩)

/-- After the merge of the rows' halves on bit 2 and that of the halves' halves on bit 1. -/
def level2 (x : FVec Ideal S256x5120 .bf16) (i : Fin 5) : FVec Ideal (lanes 128) .f32 :=
  mergeMax 128 2#32 iota_S128x128_d1_w32 shapeCasts_S128x128_S128x128x1 shapeCasts_S128x128x1_S128x128
    (extractStridedSlice S128x128 ![0, 0] (level4 x i) (slices_half 0))
    (extractStridedSlice S128x128 ![128, 0] (level4 x i) (slices_half 1))
def level1 (x : FVec Ideal S256x5120 .bf16) (i : Fin 5) : FVec Ideal (lanes 64) .f32 :=
  mergeMax 64 1#32 iota_S64x128_d1_w32 shapeCasts_S64x128_S64x128x1 shapeCasts_S64x128x1_S64x128
    (extractStridedSlice S64x128 ![0, 0] (level2 x i) (slices_quarter 0))
    (extractStridedSlice S64x128 ![64, 0] (level2 x i) (slices_quarter 1))

/-- The magnitude at row `r`, column `c` (0 outside the block). -/
def mag (x : FVec Ideal S256x5120 .bf16) (r c : ℕ) : EReal :=
  if h : r < 256 ∧ c < 5120 then
    let v : EReal := x (ix2 (n0 := 256) (n1 := 5120) ⟨r, h.1⟩ ⟨c, h.2⟩)
    max v (-v)
  else 0

theorem bit_flip_ne : ∀ n m : Fin 5, n ≠ m → ∀ l : Fin 128, bit m (flip n l) = bit m l := by decide +kernel
theorem bit_zero_or_one (n : Fin 5) (l : Fin 128) : bit n l = 0 ∨ bit n l = 1 := by unfold bit; omega

theorem same_zero (p l : Fin 128) : Same 0 p l ↔ p = l := by
  unfold Same; rw [Nat.or_zero, Nat.or_zero]; exact Fin.ext_iff.symm

theorem absTile_covers (x : FVec Ideal S256x5120 .bf16) (j : Fin 40) :
    Covers 0 (absTile x j) (fun r _ p => mag x r (128 * j.val + p.val)) := by
  intro i l z
  have e : (absTile x j (at2 i l) : EReal) = mag x i.val (128 * j.val + l.val) := by
    have hj := j.isLt
    have hl := l.isLt
    unfold mag
    rw [dif_pos ⟨i.isLt, by omega⟩]
    refine congrArg (fun v : EReal => max v (-v)) ?_
    unfold tile
    rw [shapeCast_self]
    exact extractStridedSlice_apply _ _ _ _ _ (fun a => by
      match a with
      | ⟨0, _⟩ => exact (Nat.zero_add _).symm
      | ⟨1, _⟩ => rfl)
  rw [e]
  simp only [same_zero]
  exact ⟨fun h p hp => hp ▸ h, fun h => h l rfl⟩

theorem level16_covers (x : FVec Ideal S256x5120 .bf16) (j : Fin 20) :
    Covers 16 (level16 x j) (fun r l p => mag x r (128 * (j.val + 20 * bit 4 l) + p.val)) := by
  refine Covers.merge (4 : Fin 5) _ _ _ (absTile_covers x ⟨j.val, by omega⟩) (absTile_covers x ⟨j.val + 20, by omega⟩)
    (fun _ _ _ => rfl) (fun _ _ _ => rfl) ?_
  intro i l p
  rcases bit_zero_or_one 4 l with h | h <;> simp [h]

theorem level8_covers (x : FVec Ideal S256x5120 .bf16) (j : Fin 10) :
    Covers 24 (level8 x j) (fun r l p => mag x r (128 * (j.val + 10 * bit 3 l + 20 * bit 4 l) + p.val)) := by
  refine Covers.merge (3 : Fin 5) _ _ _ (level16_covers x ⟨j.val, by omega⟩) (level16_covers x ⟨j.val + 10, by omega⟩)
    (fun _ _ _ => by simp only [bit_flip_ne 3 4 (by decide)]) (fun _ _ _ => by simp only [bit_flip_ne 3 4 (by decide)]) ?_
  intro i l p
  rcases bit_zero_or_one 3 l with h | h <;> simp [h]

theorem level4_covers (x : FVec Ideal S256x5120 .bf16) (j : Fin 5) :
    Covers 28 (level4 x j)
      (fun r l p => mag x r (128 * (j.val + 5 * bit 2 l + 10 * bit 3 l + 20 * bit 4 l) + p.val)) := by
  refine Covers.merge (2 : Fin 5) _ _ _ (level8_covers x ⟨j.val, by omega⟩) (level8_covers x ⟨j.val + 5, by omega⟩)
    (fun _ _ _ => by simp only [bit_flip_ne 2 3 (by decide), bit_flip_ne 2 4 (by decide)])
    (fun _ _ _ => by simp only [bit_flip_ne 2 3 (by decide), bit_flip_ne 2 4 (by decide)]) ?_
  intro i l p
  rcases bit_zero_or_one 2 l with h | h <;> simp [h]

/-- The rows from `o` on of a tile that covers a family cover the family at those rows. -/
theorem Covers.rows {r s m o : ℕ} {v : FVec Ideal (lanes r) .f32} {T : ℕ → Fin 128 → Fin 128 → EReal}
    (h : Covers m v T) (hs : (lanes r).Slices ![o, 0] (lanes s)) (ho : o + s ≤ r) :
    Covers m (extractStridedSlice (lanes s) ![o, 0] v hs) (fun i l p => T (i + o) l p) := by
  intro i l z
  have e : extractStridedSlice (lanes s) ![o, 0] v hs (at2 i l) = v (at2 ⟨i.val + o, by omega⟩ l) :=
    extractStridedSlice_apply _ _ _ _ _ (fun a => by
      match a with
      | ⟨0, _⟩ => exact Nat.add_comm _ _
      | ⟨1, _⟩ => exact (Nat.zero_add _).symm)
  rw [e]
  exact h _ _ _

theorem level2_covers (x : FVec Ideal S256x5120 .bf16) (j : Fin 5) :
    Covers 30 (level2 x j) (fun r l p =>
      mag x (r + 128 * bit 1 l) (128 * (j.val + 5 * bit 2 l + 10 * bit 3 l + 20 * bit 4 l) + p.val)) := by
  refine Covers.merge (1 : Fin 5) _ _ _ ((level4_covers x j).rows _ (by decide)) ((level4_covers x j).rows _ (by decide))
    (fun _ _ _ => by simp only [bit_flip_ne 1 2 (by decide), bit_flip_ne 1 3 (by decide), bit_flip_ne 1 4 (by decide)])
    (fun _ _ _ => by simp only [bit_flip_ne 1 2 (by decide), bit_flip_ne 1 3 (by decide), bit_flip_ne 1 4 (by decide)]) ?_
  intro i l p
  rcases bit_zero_or_one 1 l with h | h <;> simp [h]

theorem level1_covers (x : FVec Ideal S256x5120 .bf16) (j : Fin 5) :
    Covers 31 (level1 x j) (fun r l p =>
      mag x (r + 64 * bit 0 l + 128 * bit 1 l) (128 * (j.val + 5 * bit 2 l + 10 * bit 3 l + 20 * bit 4 l) + p.val)) := by
  refine Covers.merge (0 : Fin 5) _ _ _ ((level2_covers x j).rows _ (by decide)) ((level2_covers x j).rows _ (by decide))
    (fun _ _ _ => by simp only [bit_flip_ne 0 1 (by decide), bit_flip_ne 0 2 (by decide), bit_flip_ne 0 3 (by decide),
      bit_flip_ne 0 4 (by decide)])
    (fun _ _ _ => by simp only [bit_flip_ne 0 1 (by decide), bit_flip_ne 0 2 (by decide), bit_flip_ne 0 3 (by decide),
      bit_flip_ne 0 4 (by decide)]) ?_
  intro i l p
  rcases bit_zero_or_one 0 l with h | h <;> simp [h]

theorem same_group : ∀ p l : Fin 128, Same 31 p l ↔ p.val / 32 = l.val / 32 := by decide +kernel

/-- The greatest magnitude of 32 values. -/
def greatest (f : Fin 32 → EReal) : EReal := Finset.univ.sup fun p => max (f p) (-(f p))

/-- The greatest magnitude of group `g` of row `r` of the block. -/
def blockMax (x : FVec Ideal S256x5120 .bf16) (r : Fin 256) (g : Fin 160) : EReal :=
  greatest fun p => x (ix2 (n0 := 256) (n1 := 5120) r ⟨32 * g.val + p.val, by omega⟩)

/-- The five merges at row `r`, lane `l`: the greatest magnitude of the group that the lane names. -/
theorem level1_eq (x : FVec Ideal S256x5120 .bf16) (c : Fin 5) (r : Fin 64) (l : Fin 128) (R : Fin 256) (g : Fin 160)
    (hR : R.val = r.val + 64 * bit 0 l + 128 * bit 1 l)
    (hg : g.val = 4 * (c.val + 5 * bit 2 l + 10 * bit 3 l + 20 * bit 4 l) + l.val / 32) :
    (level1 x c (at2 r l) : EReal) = blockMax x R g := by
  refine eq_of_forall_ge_iff fun z => ?_
  have h := level1_covers x c r l z
  refine h.trans ?_
  unfold blockMax greatest
  rw [Finset.sup_le_iff]
  have hl := l.isLt
  have e : ∀ q : Fin 32, ∀ n : ℕ,
      n = 32 * g.val + q.val → mag x (r.val + 64 * bit 0 l + 128 * bit 1 l) n
      = max (x (ix2 (n0 := 256) (n1 := 5120) R ⟨32 * g.val + q.val, by omega⟩) : EReal)
          (-(x (ix2 (n0 := 256) (n1 := 5120) R ⟨32 * g.val + q.val, by omega⟩) : EReal)) := by
    intro q n hn
    subst hn
    have hgl := g.isLt
    have hql := q.isLt
    rw [← hR]
    unfold mag
    rw [dif_pos ⟨R.isLt, by omega⟩]
  constructor
  · intro H q _
    have hq := q.isLt
    have := H ⟨32 * (l.val / 32) + q.val, by omega⟩ ((same_group _ _).2 (by show (32 * (l.val / 32) + q.val) / 32 = _; omega))
    refine le_of_eq_of_le (e q (128 * (c.val + 5 * bit 2 l + 10 * bit 3 l + 20 * bit 4 l) + (32 * (l.val / 32) + q.val)) ?_).symm this
    simp only [hg]; omega
  · intro H p hp
    have hp' := (same_group _ _).1 hp
    have := H ⟨p.val % 32, Nat.mod_lt _ (by decide)⟩ (Finset.mem_univ _)
    have hpl := p.isLt
    refine le_of_eq_of_le (e ⟨p.val % 32, Nat.mod_lt _ (by decide)⟩ _ ?_) this
    simp only [hg]; omega

end Cert.KernelIdeal.Quantise

end
-- ==== Proof.Quant.Printed.lean ====
/-
  THE QUANTISER'S STORES, on the extended reals, as one family. The body of the quantise call writes its codes and its
  dequantised values in 160 stores each, of 64 rows × 128 lanes. Here the operations of the body are stated once for any
  tile and quarter of the rows (`codesPiece`, `deqPiece`), and the contents the body leaves are the stores of that
  family (`out_codes`, `out_deq`).
-/
module

public import proofs.«01_k».proof.Proof.Quant.Level
public import proofs.«01_k».proof.Proof.Gen.KernelIdeal.Frame.Region0

@[expose] public section

set_option maxRecDepth 16384

noncomputable section

namespace Cert.KernelIdeal.Quantise

open Cert.KernelIdeal Cert.KernelIdeal.Gen Idealize.ShloMosaic

/-! ## The exponent of a group's scale -/

/-- The group maximum over 448. -/
def threshold (v : FVec Ideal (lanes 64) .f32) : FVec Ideal (lanes 64) .f32 :=
  mulf (extf .f32 (truncf .bf16 v bitsLt_bf16_f32) bitsLt_bf16_f32)
    (broadcast (lanes 64) (Scalar.ofBits (F := Ideal) .f32 0x3B124925#32))

/-- One step of the search for the exponent field: add `b` if `t` is at least the float of that field. -/
def fieldStep (t : FVec Ideal (lanes 64) .f32) (b : BitVec 32) (f : IVec (lanes 64) 32) : IVec (lanes 64) 32 :=
  select (cmpf .olt t (bitcastToFloat .f32 (shli (addi f (broadcast (lanes 64) b)) (broadcast (lanes 64) 23#32))))
    f (addi f (broadcast (lanes 64) b))

/-- The exponent field of `t`: the search over the eight bits, from the highest. -/
def field (t : FVec Ideal (lanes 64) .f32) : IVec (lanes 64) 32 :=
  fieldStep t 1#32 (fieldStep t 2#32 (fieldStep t 4#32 (fieldStep t 8#32 (fieldStep t 16#32 (fieldStep t 32#32
    (fieldStep t 64#32 (fieldStep t 128#32 (broadcast (lanes 64) 0#32))))))))

/-- The exponent of the scale of the group maxima `v`. -/
def exponent (v : FVec Ideal (lanes 64) .f32) : IVec (lanes 64) 32 :=
  minsi (broadcast (lanes 64) 127#32) (maxsi (broadcast (lanes 64) 4294967170#32)
    (select (cmpf .oeq (extf .f32 (truncf .bf16 v bitsLt_bf16_f32) bitsLt_bf16_f32)
        (broadcast (lanes 64) (Scalar.ofBits (F := Ideal) .f32 0x00000000#32)))
      (broadcast (lanes 64) 0#32)
      (select (cmpi .eq (field (threshold v)) (broadcast (lanes 64) 0#32)) (broadcast (lanes 64) 0#32)
        (subi (field (threshold v)) (broadcast (lanes 64) 126#32)))))

/-- The word of the reciprocal of the scale. -/
def word (x : FVec Ideal S256x5120 .bf16) (c : Fin 5) : IVec (lanes 64) 32 :=
  shli (subi (broadcast (lanes 64) 127#32) (exponent (level1 x c))) (broadcast (lanes 64) 23#32)

/-- The scale code as a number. -/
def code (x : FVec Ideal S256x5120 .bf16) (c : Fin 5) : FVec Ideal (lanes 64) .bf16 :=
  truncf .bf16 (sitofp .f32 (addi (exponent (level1 x c)) (broadcast (lanes 64) 127#32))) bitsLt_bf16_f32

/-! ## One store of 64 rows × 128 lanes -/

theorem slices_rows (h : Fin 4) : S256x128.Slices ![64 * h.val, 0] S64x128 := by revert h; decide

/-- The lanes of the words of the four groups of a tile: the group's number times 32, plus `k`. -/
def wordLane (k : ℕ) : IVec (lanes 64) 32 :=
  let i := ori (andi (iota .tc (lanes 64) 32 [(1 : Fin 2)] iota_S64x128_d1_w32) (broadcast (lanes 64) 96#32))
    (broadcast (lanes 64) (BitVec.ofNat 32 k))
  select (cmpi .slt i (broadcast (lanes 64) 0#32)) (addi i (broadcast (lanes 64) 128#32)) i

/-- The words of a tile's groups, gathered. -/
def gathered (w : IVec (lanes 64) 32) (k : ℕ) : IVec (lanes 64) 32 :=
  dynamicGather (1 : Fin 2) w (shapeCast S64x128 (shapeCast S64x128x1 (wordLane k) shapeCasts_S64x128_S64x128x1)
    shapeCasts_S64x128x1_S64x128)

/-- The codes of quarter `h` of the rows of a tile: the values times the reciprocal scale, clipped at ±448. -/
def codesPiece (t : FVec Ideal S256x128 .bf16) (w : IVec (lanes 64) 32) (k : ℕ) (h : Fin 4) :
    FVec Ideal S64x128 .fp8e4m3 :=
  truncf .fp8e4m3 (minimumf
    (broadcast S64x128 (Scalar.truncf .bf16 bitsLt_bf16_f32 (Scalar.ofBits (F := Ideal) .f32 0x43E00000#32)))
    (maximumf
      (broadcast S64x128 (Scalar.truncf .bf16 bitsLt_bf16_f32 (Scalar.ofBits (F := Ideal) .f32 0xC3E00000#32)))
      (mulf (extractStridedSlice S64x128 ![64 * h.val, 0] t (slices_rows h))
        (truncf .bf16 (bitcastToFloat .f32 (gathered w k)) bitsLt_bf16_f32)))) bitsLt_fp8e4m3_bf16

/-- The dequantised values: the codes times the scale. -/
def deqPiece (t : FVec Ideal S256x128 .bf16) (w : IVec (lanes 64) 32) (k : ℕ) (h : Fin 4) : FVec Ideal S64x128 .bf16 :=
  mulf (extf .bf16 (codesPiece t w k h) bitsLt_fp8e4m3_bf16)
    (truncf .bf16 (bitcastToFloat .f32 (subi (broadcast S64x128 2130706432#32) (gathered w k))) bitsLt_bf16_f32)

/-! ## The family of the stores -/

/-- The tile of store `n`, the `c` of its words and the quarter of its rows. -/
def tileOf (n : Fin 160) : Fin 40 := ⟨n.val / 32 + 5 * (n.val % 32 / 4), by omega⟩
def wordOf (n : Fin 160) : Fin 5 := ⟨n.val / 32, by omega⟩
def rowsOf (n : Fin 160) : Fin 4 := ⟨n.val % 4, by omega⟩

theorem inb_piece (n : Fin 160) (a : Fin 2) :
    (![64 * (rowsOf n).val, 128 * (tileOf n).val] : Fin 2 → ℕ) a + S64x128.size a ≤ S256x5120.size a := by
  have h1 := (rowsOf n).isLt
  have h2 := (tileOf n).isLt
  match a with
  | ⟨0, _⟩ => show 64 * (rowsOf n).val + 64 ≤ 256; omega
  | ⟨1, _⟩ => show 128 * (tileOf n).val + 128 ≤ 5120; omega

/-- The rectangle of store `n`. -/
abbrev rectOf (n : Fin 160) : Rect S256x5120 :=
  Rect.unit (s := S256x5120) ![64 * (rowsOf n).val, 128 * (tileOf n).val] S64x128.size (inb_piece n)

/-- The stores of a family of payloads up to store `n`, the last first. -/
def stores {e : EltTy} (P : Fin 160 → S64x128.Idx → Elt Ideal e) :
    (n : ℕ) → n ≤ 160 → List (View.Piece (Elt Ideal) S256x5120 e)
  | 0, _ => []
  | n + 1, h => ⟨rectOf ⟨n, h⟩, P ⟨n, h⟩⟩ :: stores P n (Nat.le_of_succ_le h)

/-- The codes are the 160 stores of the family. -/
theorem out_codes (x0 : Vec Ideal S256x5120 .bf16) (x1 : Vec Ideal S640x1024 .bf16) :
    out0_2 x0 x1 = View.canon (stores (e := .fp8e4m3) (fun n => codesPiece (tile (View.ld x0 r0_0) (tileOf n))
      (word (View.ld x0 r0_0) (wordOf n)) (n.val % 32) (rowsOf n)) 160 (Nat.le_refl _)) := by
  unfold out0_2
  rfl

/-- The dequantised values likewise. -/
theorem out_deq (x0 : Vec Ideal S256x5120 .bf16) (x1 : Vec Ideal S640x1024 .bf16) :
    out0_4 x0 x1 = View.canon (stores (e := .bf16) (fun n => deqPiece (tile (View.ld x0 r0_0) (tileOf n))
      (word (View.ld x0 r0_0) (wordOf n)) (n.val % 32) (rowsOf n)) 160 (Nat.le_refl _)) := by
  unfold out0_4
  rfl

end Cert.KernelIdeal.Quantise

end
-- ==== Proof.Quant.Piece.lean ====
/-
  WHAT ONE GRID POINT OF THE QUANTISER WRITES AS CODES AND AS DEQUANTISED VALUES, on the extended reals: over its whole
  256 × 5120 block, each value times the reciprocal scale of its group of 32, clipped at ±448 (`codesBlock`), and that
  times the scale (`deqBlock`). The scale is a function of the group's greatest magnitude alone (`scaleExp`,
  `invScale`, `scale`).
-/
module

public import proofs.«01_k».proof.Proof.Quant.Printed

@[expose] public section

set_option maxRecDepth 16384

noncomputable section

namespace Cert.KernelIdeal.Quantise

open Cert.KernelIdeal Cert.KernelIdeal.Gen Idealize.ShloMosaic

/-! ## The scale of a group, from its greatest magnitude -/

/-- One step of the search for the exponent field of `t`. -/
def fieldStep1 (t : EReal) (b f : BitVec 32) : BitVec 32 :=
  if Ideal.cmp .olt t (Ideal.ofBits .f32 (IntOp.shli .vector (f + b) 23#32)) = 1#1 then f else f + b

/-- The exponent field of `t`. -/
def field1 (t : EReal) : BitVec 32 :=
  fieldStep1 t 1#32 (fieldStep1 t 2#32 (fieldStep1 t 4#32 (fieldStep1 t 8#32 (fieldStep1 t 16#32 (fieldStep1 t 32#32
    (fieldStep1 t 64#32 (fieldStep1 t 128#32 0#32)))))))

/-- The greatest magnitude over 448, as the product with the constant of the program. -/
def threshold1 (a : EReal) : EReal := a * Ideal.ofBits .f32 0x3B124925#32

/-- The exponent of the scale of a group whose greatest magnitude is `a`. -/
def scaleExp (a : EReal) : BitVec 32 :=
  IntOp.minsi 127#32 (IntOp.maxsi 4294967170#32
    (if Ideal.cmp .oeq a (Ideal.ofBits .f32 0x00000000#32) = 1#1 then 0#32
      else if IntOp.cmpi .eq (field1 (threshold1 a)) 0#32 = 1#1 then 0#32 else field1 (threshold1 a) - 126#32))

/-- The word of the reciprocal scale. -/
def invWord (a : EReal) : BitVec 32 := IntOp.shli .vector (127#32 - scaleExp a) 23#32

/-- The reciprocal of the scale and the scale. -/
def invScale (a : EReal) : EReal := Ideal.ofBits .f32 (invWord a)
def scale (a : EReal) : EReal := Ideal.ofBits .f32 (2130706432#32 - invWord a)

theorem fieldStep_apply (t : FVec Ideal (lanes 64) .f32) (b : BitVec 32) (f : IVec (lanes 64) 32) (j : (lanes 64).Idx) :
    fieldStep t b f j = fieldStep1 (t j) b (f j) := rfl

theorem field_apply (t : FVec Ideal (lanes 64) .f32) (j : (lanes 64).Idx) : field t j = field1 (t j) := by
  unfold field field1
  rw [fieldStep_apply, fieldStep_apply, fieldStep_apply, fieldStep_apply, fieldStep_apply, fieldStep_apply,
    fieldStep_apply, fieldStep_apply]
  rfl

/-- The last steps of the exponent, the search left as it is. -/
def scaleExpOf (a : EReal) (f : BitVec 32) : BitVec 32 :=
  IntOp.minsi 127#32 (IntOp.maxsi 4294967170#32
    (if Ideal.cmp .oeq a (Ideal.ofBits .f32 0x00000000#32) = 1#1 then 0#32
      else if IntOp.cmpi .eq f 0#32 = 1#1 then 0#32 else f - 126#32))

theorem exponent_apply (v : FVec Ideal (lanes 64) .f32) (j : (lanes 64).Idx) : exponent v j = scaleExp (v j) := by
  unfold exponent
  generalize hf : field (threshold v) = f
  have e : f j = field1 (threshold1 (v j)) := by rw [← hf, field_apply]; rfl
  have h : scaleExpOf (v j) (f j) = scaleExp (v j) := by rw [e]; rfl
  rw [← h]
  rfl

/-- The words at an index. -/
theorem word_apply (x : FVec Ideal S256x5120 .bf16) (c : Fin 5) (j : (lanes 64).Idx) :
    word x c j = invWord (level1 x c j) := by
  unfold word invWord
  rw [← exponent_apply]
  rfl

/-! ## The gather of a tile's words -/

theorem wordLane_nat : ∀ l : Fin 128, ∀ k : Fin 32,
    (let p := BitVec.ofNat 32 l.val &&& 96#32 ||| BitVec.ofNat 32 k.val
     if IntOp.cmpi .slt p 0#32 = 1#1 then p + 128#32 else p).toNat % 128 = 32 * (l.val / 32) + k.val := by
  decide +kernel

theorem gathered_apply (w : IVec (lanes 64) 32) (k : Fin 32) (r : Fin 64) (l : Fin 128) :
    gathered w k.val (at2 r l) = w (at2 r ⟨32 * (l.val / 32) + k.val, by omega⟩) := by
  unfold gathered
  rw [shapeCast_shapeCast]
  refine congrArg w (Shape.idx_ext₂ rfl ?_)
  show _ = 32 * (l.val / 32) + k.val
  rw [← wordLane_nat l k]
  exact congrArg (fun q : BitVec 32 => (let p := q &&& 96#32 ||| BitVec.ofNat 32 k.val
     if IntOp.cmpi .slt p 0#32 = 1#1 then p + 128#32 else p).toNat % 128)
    (iota_single_apply .tc (lanes 64) 32 (1 : Fin 2) iota_S64x128_d1_w32 (at2 r l))

/-! ## The block -/

/-- Clipped at ±448. -/
def clip (v : EReal) : EReal := min (Ideal.ofBits .f32 0x43E00000#32) (max (Ideal.ofBits .f32 0xC3E00000#32) v)

/-- The group of 32 that holds column `c`. -/
def groupOf (c : Fin 5120) : Fin 160 := ⟨c.val / 32, by omega⟩

/-- The block of codes: each value times the reciprocal scale of its group, clipped. -/
def codesBlock (x : Vec Ideal S256x5120 .bf16) : Vec Ideal S256x5120 .fp8e4m3 := fun y =>
  clip ((show EReal from x y) * invScale (blockMax x (y 0) (groupOf (y 1))))

/-- The block of dequantised values: the codes times the scale. -/
def deqBlock (x : Vec Ideal S256x5120 .bf16) : Vec Ideal S256x5120 .bf16 := fun y =>
  clip ((show EReal from x y) * invScale (blockMax x (y 0) (groupOf (y 1)))) * scale (blockMax x (y 0) (groupOf (y 1)))

/-- The word a store gathers for its row `r`, lane `l`. -/
theorem piece_word (x : Vec Ideal S256x5120 .bf16) (n : Fin 160) (r : Fin 64) (l : Fin 128) (y : S256x5120.Idx)
    (h0 : (y 0 : ℕ) = 64 * (rowsOf n).val + r.val) (h1 : (y 1 : ℕ) = 128 * (tileOf n).val + l.val) :
    gathered (word x (wordOf n)) (n.val % 32) (at2 r l) = invWord (blockMax x (y 0) (groupOf (y 1))) := by
  refine (gathered_apply _ ⟨n.val % 32, Nat.mod_lt _ (by decide)⟩ r l).trans ?_
  rw [word_apply]
  refine congrArg invWord (level1_eq x _ r _ (y 0) (groupOf (y 1)) ?_ ?_)
  · simp only [h0, bit, rowsOf, Fin.val_zero, Fin.val_one]; omega
  · have e : (groupOf (y 1)).val = (y 1 : ℕ) / 32 := rfl
    rw [e, h1]
    have b2 : bit 2 (⟨32 * (l.val / 32) + n.val % 32, by omega⟩ : Fin 128) = n.val / 4 % 2 := by
      show (32 * (l.val / 32) + n.val % 32) / 4 % 2 = _; omega
    have b3 : bit 3 (⟨32 * (l.val / 32) + n.val % 32, by omega⟩ : Fin 128) = n.val / 8 % 2 := by
      show (32 * (l.val / 32) + n.val % 32) / 8 % 2 = _; omega
    have b4 : bit 4 (⟨32 * (l.val / 32) + n.val % 32, by omega⟩ : Fin 128) = n.val / 16 % 2 := by
      show (32 * (l.val / 32) + n.val % 32) / 16 % 2 = _; omega
    rw [b2, b3, b4]
    show (128 * (n.val / 32 + 5 * (n.val % 32 / 4)) + l.val) / 32
      = 4 * (n.val / 32 + 5 * (n.val / 4 % 2) + 10 * (n.val / 8 % 2) + 20 * (n.val / 16 % 2)) + (32 * (l.val / 32) + n.val % 32) / 32
    have := l.isLt
    omega

/-- The value a store reads at its row `r`, lane `l`. -/
theorem piece_value (x : Vec Ideal S256x5120 .bf16) (n : Fin 160) (r : Fin 64) (l : Fin 128) (y : S256x5120.Idx)
    (h0 : (y 0 : ℕ) = 64 * (rowsOf n).val + r.val) (h1 : (y 1 : ℕ) = 128 * (tileOf n).val + l.val) :
    extractStridedSlice S64x128 ![64 * (rowsOf n).val, 0] (tile x (tileOf n)) (slices_rows (rowsOf n)) (at2 r l) = x y := by
  unfold tile
  rw [shapeCast_self]
  have hr := (rowsOf n).isLt
  refine (extractStridedSlice_apply _ _ _ _ (at2 (r := 256) ⟨64 * (rowsOf n).val + r.val, by omega⟩ l) (fun a => by
    match a with
    | ⟨0, _⟩ => rfl
    | ⟨1, _⟩ => exact (Nat.zero_add _).symm)).trans ?_
  exact extractStridedSlice_apply _ _ _ _ _ (fun a => by
    match a with
    | ⟨0, _⟩ => exact h0.trans (Nat.zero_add _).symm
    | ⟨1, _⟩ => exact h1)

theorem codesPiece_apply (t : FVec Ideal S256x128 .bf16) (w : IVec (lanes 64) 32) (k : ℕ) (h : Fin 4) (j : S64x128.Idx) :
    codesPiece t w k h j
      = clip ((show EReal from extractStridedSlice S64x128 ![64 * h.val, 0] t (slices_rows h) j)
        * Ideal.ofBits .f32 (gathered w k j)) := rfl

theorem scaled_apply (a : FVec Ideal S64x128 .fp8e4m3) (c : BitVec 32) (g : IVec S64x128 32) (j : S64x128.Idx) :
    mulf (extf .bf16 a bitsLt_fp8e4m3_bf16)
      (truncf .bf16 (bitcastToFloat .f32 (subi (broadcast S64x128 c) g)) bitsLt_bf16_f32) j
      = (show EReal from a j) * Ideal.ofBits .f32 (c - g j) := rfl

theorem deqPiece_apply (t : FVec Ideal S256x128 .bf16) (w : IVec (lanes 64) 32) (k : ℕ) (h : Fin 4) (j : S64x128.Idx) :
    deqPiece t w k h j
      = (show EReal from codesPiece t w k h j) * Ideal.ofBits .f32 (2130706432#32 - gathered w k j) :=
  scaled_apply (codesPiece t w k h) 2130706432#32 (gathered w k) j

theorem codes_at (x : Vec Ideal S256x5120 .bf16) (n : Fin 160) (r : Fin 64) (l : Fin 128) (y : S256x5120.Idx)
    (h0 : (y 0 : ℕ) = 64 * (rowsOf n).val + r.val) (h1 : (y 1 : ℕ) = 128 * (tileOf n).val + l.val) :
    codesPiece (tile x (tileOf n)) (word x (wordOf n)) (n.val % 32) (rowsOf n) (at2 r l) = codesBlock x y := by
  rw [codesPiece_apply, piece_word x n r l y h0 h1, piece_value x n r l y h0 h1]
  rfl

theorem deq_at (x : Vec Ideal S256x5120 .bf16) (n : Fin 160) (r : Fin 64) (l : Fin 128) (y : S256x5120.Idx)
    (h0 : (y 0 : ℕ) = 64 * (rowsOf n).val + r.val) (h1 : (y 1 : ℕ) = 128 * (tileOf n).val + l.val) :
    deqPiece (tile x (tileOf n)) (word x (wordOf n)) (n.val % 32) (rowsOf n) (at2 r l) = deqBlock x y := by
  rw [deqPiece_apply, codes_at x n r l y h0 h1, piece_word x n r l y h0 h1]
  rfl

/-! ## The 160 stores together -/

theorem mem_stores {e : EltTy} (P : Fin 160 → S64x128.Idx → Elt Ideal e) (k : Fin 160) :
    ∀ (n : ℕ) (h : n ≤ 160), k.val < n → (⟨rectOf k, P k⟩ : View.Piece (Elt Ideal) S256x5120 e) ∈ stores P n h
  | 0, _, hk => absurd hk (Nat.not_lt_zero _)
  | n + 1, h, hk => by
    rcases Nat.lt_succ_iff_lt_or_eq.1 hk with h' | h'
    · exact List.mem_cons_of_mem _ (mem_stores P k n _ h')
    · subst h'; exact List.mem_cons_self

theorem allAt_stores {e : EltTy} (P : Fin 160 → S64x128.Idx → Elt Ideal e) (y : S256x5120.Idx) (v : Elt Ideal e)
    (H : ∀ k : Fin 160, View.TileAt (Val := Elt Ideal) (S := S256x5120) (e := e) y
      ![64 * (rowsOf k).val, 128 * (tileOf k).val] S64x128.size (P k) v) :
    ∀ (n : ℕ) (h : n ≤ 160), View.AllAt (stores P n h) y v
  | 0, _ => View.allAt_nil y v
  | n + 1, h => View.allAt_cons_unit _ _ _ _ _ (H ⟨n, h⟩) (allAt_stores P y v H n _)

/-- The stores leave at `y` what every store that holds `y` has there. -/
theorem canon_stores {e : EltTy} (P : Fin 160 → S64x128.Idx → Elt Ideal e) (f : S256x5120.Idx → Elt Ideal e)
    (H : ∀ (k : Fin 160) (r : Fin 64) (l : Fin 128) (y : S256x5120.Idx), (y 0 : ℕ) = 64 * (rowsOf k).val + r.val →
      (y 1 : ℕ) = 128 * (tileOf k).val + l.val → P k (at2 r l) = f y) :
    View.canon (stores P 160 (Nat.le_refl _)) = f := by
  funext y
  have h0 : (y 0 : ℕ) < 256 := (y 0).isLt
  have h1 : (y 1 : ℕ) < 5120 := (y 1).isLt
  let k : Fin 160 := ⟨32 * ((y 1 : ℕ) / 128 % 5) + 4 * ((y 1 : ℕ) / 640) + (y 0 : ℕ) / 64, by omega⟩
  have hm : (y 1 : ℕ) / 640 = (y 1 : ℕ) / 128 / 5 := (Nat.div_div_eq_div_mul _ 128 5).symm
  have k1 : k.val / 32 = (y 1 : ℕ) / 128 % 5 := by simp only [k]; omega
  have k2 : k.val % 32 / 4 = (y 1 : ℕ) / 640 := by simp only [k]; omega
  have k3 : k.val % 4 = (y 0 : ℕ) / 64 := by simp only [k]; omega
  refine View.canon_eq_of_allAt _ y (f y) ⟨_, mem_stores P k 160 _ k.isLt, ?_⟩ (allAt_stores P y (f y) ?_ 160 _)
  · show y ∈ (rectOf k).set
    rw [Rect.mem_set_unit]
    intro a
    match a with
    | ⟨0, _⟩ =>
      show 64 * (k.val % 4) ≤ (y 0 : ℕ) ∧ (y 0 : ℕ) < 64 * (k.val % 4) + 64
      rw [k3]; omega
    | ⟨1, _⟩ =>
      show 128 * (k.val / 32 + 5 * (k.val % 32 / 4)) ≤ (y 1 : ℕ) ∧ (y 1 : ℕ) < 128 * (k.val / 32 + 5 * (k.val % 32 / 4)) + 128
      rw [k1, k2, hm]; omega
  · intro k j hj
    have e : j = at2 (r := 64) (j 0) (j 1) := funext fun a => match a with | ⟨0, _⟩ => rfl | ⟨1, _⟩ => rfl
    rw [e]
    exact H k (j 0) (j 1) y (hj 0) (hj 1)

theorem zeros2 : (![0, 0] : Fin 2 → ℕ) = fun _ => 0 := funext fun a => by fin_cases a <;> rfl

/-- The body's codes: the block of codes. -/
theorem codes_eq (x0 : Vec Ideal S256x5120 .bf16) (x1 : Vec Ideal S640x1024 .bf16) : out0_2 x0 x1 = codesBlock x0 := by
  rw [out_codes, View.ld_unit_zero zeros2]
  exact canon_stores _ _ (codes_at x0)

/-- The body's dequantised values: the block of them. -/
theorem deq_eq (x0 : Vec Ideal S256x5120 .bf16) (x1 : Vec Ideal S640x1024 .bf16) : out0_4 x0 x1 = deqBlock x0 := by
  rw [out_deq, View.ld_unit_zero zeros2]
  exact canon_stores _ _ (deq_at x0)

end Cert.KernelIdeal.Quantise

end
-- ==== Proof.Quant.Scales.lean ====
/-
  WHAT ONE GRID POINT OF THE QUANTISER WRITES AS SCALE CODES, on the extended reals. The body holds the codes of the
  groups scattered over five registers of 64 × 128 and gathers them into place by a product with a matrix that has a
  single 1 in each of the columns it keeps (`Places`). So each kept column of the product is one entry of the registers,
  and the body writes at every row and group the code of that group (`scalesBlock`).
-/
module

public import proofs.«01_k».proof.Proof.Quant.Piece
public import Idealize.ShloMosaic.Lib.MatmulPlain

@[expose] public section

set_option maxRecDepth 16384

noncomputable section

namespace Cert.KernelIdeal.Quantise

open Cert.KernelIdeal Cert.KernelIdeal.Gen Idealize.ShloMosaic

/-! ## The printed operations -/

/-- The five registers of codes side by side. -/
def registers (x : FVec Ideal S256x5120 .bf16) : FVec Ideal S64x640 .bf16 :=
  concatenate S64x640 1 (List.ofFn fun c : Fin 5 => (⟨S64x128, code x c⟩ : (s : Shape) × (s.Idx → Ideal .bf16)))
    concatenates_S64x128_S64x128_S64x128_S64x128_S64x128_S64x640_d1

/-- Their product with the matrix. -/
def spread (x : FVec Ideal S256x5120 .bf16) (p : FVec Ideal S640x1024 .bf16) : FVec Ideal S64x1024 .f32 :=
  matmul dot_S64x640_S640x1024_S64x1024_1_0_0_1_n_n none (registers x)
    (shapeCast S640x1024 p shapeCasts_S640x1024_S640x1024) (constant S64x1024 .f32 0x00000000#32)

theorem slices_columns (h : Fin 4) : S64x1024.Slices ![0, 256 * h.val] S64x160 := by revert h; decide

/-- The codes of quarter `h` of the rows. -/
def scalesPiece (x : FVec Ideal S256x5120 .bf16) (p : FVec Ideal S640x1024 .bf16) (h : Fin 4) : IVec S64x160 8 :=
  trunci 8 (fptosi 32 (extractStridedSlice S64x160 ![0, 256 * h.val] (spread x p) (slices_columns h))) natLt_8_32

/-- The scale codes are four stores, one for each quarter of the rows. -/
theorem out_scales (x0 : Vec Ideal S256x5120 .bf16) (x1 : Vec Ideal S640x1024 .bf16) :
    out0_3 x0 x1 = View.canon (Val := Elt Ideal) (s := S256x160) (e := .i8)
      [⟨r0_165, scalesPiece (View.ld x0 r0_0) (View.ld x1 r0_1) 3⟩, ⟨r0_164, scalesPiece (View.ld x0 r0_0) (View.ld x1 r0_1) 2⟩,
       ⟨r0_163, scalesPiece (View.ld x0 r0_0) (View.ld x1 r0_1) 1⟩, ⟨r0_162, scalesPiece (View.ld x0 r0_0) (View.ld x1 r0_1) 0⟩] := by
  unfold out0_3
  rfl

/-! ## The registers at an index -/

/-- The code of the scale of a group whose greatest magnitude is `a`, as a number. -/
def codeOf (a : EReal) : EReal := (((scaleExp a + 127#32).toInt : ℝ) : EReal)

theorem code_apply (x : FVec Ideal S256x5120 .bf16) (c : Fin 5) (j : (lanes 64).Idx) :
    (code x c j : EReal) = codeOf (level1 x c j) := by
  unfold code codeOf
  rw [← exponent_apply]
  rfl

theorem registers_apply (x : FVec Ideal S256x5120 .bf16) (r : Fin 64) (k : Fin 640) :
    (registers x (ix2 (n0 := 64) (n1 := 640) r k) : EReal)
      = codeOf (level1 x ⟨k.val / 128, by omega⟩ (at2 r ⟨k.val % 128, Nat.mod_lt _ (by decide)⟩)) := by
  rw [← code_apply]
  refine concatenate_ofFn_apply (t := S64x640) (s₁ := S64x128) (1 : Fin 2) (fun c : Fin 5 => code x c) _ rfl 128 rfl
    (ix2 (n0 := 64) (n1 := 640) r k) ⟨k.val / 128, by omega⟩ rfl
    (at2 r ⟨k.val % 128, Nat.mod_lt _ (by decide)⟩) rfl ?_
  intro b hb
  match b with
  | ⟨0, _⟩ => rfl
  | ⟨1, _⟩ => exact absurd rfl hb

/-! ## The matrix -/

/-- The column in which row `k` of the matrix has its 1. -/
def columnOf (k : ℕ) : ℕ :=
  256 * (k % 128 % 2 + 2 * (k % 128 / 2 % 2))
    + (4 * (k / 128 + 5 * (k % 128 / 4 % 2 + 2 * (k % 128 / 8 % 2) + 4 * (k % 128 / 16 % 2))) + k % 128 / 32)

/-- The row whose 1 is in column `256·h + g`. -/
def rowAt (h g : ℕ) : ℕ := 128 * (g / 4 % 5) + (32 * (g % 4) + 4 * (g / 20) + h)

/-- The matrix has a 1 where row `k` meets column `columnOf k`, and 0 elsewhere. -/
def Places (p : FVec Ideal S640x1024 .bf16) : Prop :=
  ∀ (k : Fin 640) (n : Fin 1024), (p (ix2 (n0 := 640) (n1 := 1024) k n) : EReal) = if n.val = columnOf k.val then 1 else 0

theorem rowAt_columnOf : ∀ k : Fin 640, rowAt (columnOf k.val / 256) (columnOf k.val % 256) = k.val := by decide +kernel

theorem rowAt_lt (h : Fin 4) (g : Fin 160) : rowAt h.val g.val < 640 := by unfold rowAt; omega

theorem columnOf_rowAt : ∀ h : Fin 4, ∀ g : Fin 160, columnOf (rowAt h.val g.val) = 256 * h.val + g.val := by decide +kernel

/-- The quarter and the group of that row's lane. -/
theorem rowAt_rows : ∀ h : Fin 4, ∀ g : Fin 160, 64 * h.val
    = 64 * (rowAt h.val g.val % 128 / 2 ^ 0 % 2) + 128 * (rowAt h.val g.val % 128 / 2 ^ 1 % 2) := by decide +kernel

theorem rowAt_group : ∀ h : Fin 4, ∀ g : Fin 160, g.val
    = 4 * (rowAt h.val g.val / 128 + 5 * (rowAt h.val g.val % 128 / 2 ^ 2 % 2) + 10 * (rowAt h.val g.val % 128 / 2 ^ 3 % 2)
      + 20 * (rowAt h.val g.val % 128 / 2 ^ 4 % 2)) + rowAt h.val g.val % 128 / 32 := by decide +kernel

/-- A kept column of the product is the one entry its 1 selects. -/
theorem spread_apply (x : FVec Ideal S256x5120 .bf16) (p : FVec Ideal S640x1024 .bf16) (hp : Places p) (r : Fin 64)
    (h : Fin 4) (g : Fin 160) (n : Fin 1024) (hn : n.val = 256 * h.val + g.val) :
    (spread x p (ix2 (n0 := 64) (n1 := 1024) r n) : EReal)
      = registers x (ix2 (n0 := 64) (n1 := 640) r ⟨rowAt h.val g.val, rowAt_lt h g⟩) := by
  unfold spread
  rw [shapeCast_self]
  refine (Ideal.matmul_plain_apply (M := 64) (K := 640) (N := 1024) (φ₁ := .bf16) (φ₂ := .bf16) none (registers x) p
    (constant S64x1024 .f32 0x00000000#32) r n).trans ?_
  rw [show (constant (F := Ideal) S64x1024 .f32 0x00000000#32) (ValueIdx.ix2 r n) = (0 : EReal) from
    Ideal.ofBits_zero_f32, zero_add]
  refine (Finset.sum_eq_single (⟨rowAt h.val g.val, rowAt_lt h g⟩ : Fin 640) (fun k _ hk => ?_)
    (fun hk => absurd (Finset.mem_univ _) hk)).trans ?_
  · have e : ¬ n.val = columnOf k.val := fun e => hk (Fin.ext (by
      have hg := g.isLt
      rw [← rowAt_columnOf k, ← e, hn, show (256 * h.val + g.val) / 256 = h.val by omega,
        show (256 * h.val + g.val) % 256 = g.val by omega]))
    exact (congrArg (fun a : EReal => _ * a) ((hp k n).trans (if_neg e))).trans (mul_zero _)
  · exact (congrArg (fun a : EReal => _ * a) ((hp _ n).trans (if_pos (hn.trans (columnOf_rowAt h g).symm)))).trans (mul_one _)

/-! ## The block -/

/-- The scale code of a group whose greatest magnitude is `a`: the number back as a word, its low byte. -/
def scaleCode (a : EReal) : BitVec 8 := (Ideal.fptosi 32 (codeOf a)).setWidth 8

/-- The block of scale codes. -/
def scalesBlock (x : Vec Ideal S256x5120 .bf16) : Vec Ideal S256x160 .i8 := fun y => scaleCode (blockMax x (y 0) (y 1))

theorem scalesPiece_apply (x : FVec Ideal S256x5120 .bf16) (p : FVec Ideal S640x1024 .bf16) (hp : Places p) (h : Fin 4)
    (r : Fin 64) (g : Fin 160) (R : Fin 256) (hR : R.val = 64 * h.val + r.val) :
    scalesPiece x p h (ix2 (n0 := 64) (n1 := 160) r g) = scaleCode (blockMax x R g) := by
  have hh := h.isLt
  have hg := g.isLt
  refine congrArg (fun a : EReal => (Ideal.fptosi 32 a).setWidth 8) ?_
  refine (extractStridedSlice_apply _ _ _ _ (ix2 (n0 := 64) (n1 := 1024) r ⟨256 * h.val + g.val, by omega⟩) (fun a => by
    match a with
    | ⟨0, _⟩ => exact (Nat.zero_add _).symm
    | ⟨1, _⟩ => rfl)).trans ?_
  rw [spread_apply x p hp r h g _ rfl, registers_apply]
  refine congrArg codeOf (level1_eq x _ r _ R g ?_ ?_)
  · exact hR.trans ((Nat.add_comm _ _).trans ((congrArg (r.val + ·) (rowAt_rows h g)).trans (Nat.add_assoc _ _ _).symm))
  · exact rowAt_group h g

/-- The body's scale codes: the block of them. -/
theorem scales_eq (x0 : Vec Ideal S256x5120 .bf16) (x1 : Vec Ideal S640x1024 .bf16) (hp : Places x1) :
    out0_3 x0 x1 = scalesBlock x0 := by
  funext y
  rw [out_scales, View.ld_unit_zero zeros2, View.ld_unit_zero zeros2]
  refine View.canon_eq_of_allAt _ y _ (cover0_3 _ _ _ _ y) ?_
  have at_quarter (h : Fin 4) : View.TileAt (Val := Elt Ideal) (S := S256x160) (e := .i8) y ![64 * h.val, 0] S64x160.size
      (scalesPiece x0 x1 h) (scalesBlock x0 y) := fun j hj => by
    have e : j = ix2 (n0 := 64) (n1 := 160) (j 0) (j 1) := funext fun a => match a with | ⟨0, _⟩ => rfl | ⟨1, _⟩ => rfl
    have e1 : j 1 = y 1 := Fin.ext ((hj 1).trans (Nat.zero_add _)).symm
    rw [e]
    refine (scalesPiece_apply x0 x1 hp h (j 0) (j 1) (y 0) (hj 0)).trans ?_
    rw [e1]; rfl
  refine View.allAt_cons_unit _ _ _ _ _ (at_quarter 3) ?_
  refine View.allAt_cons_unit _ _ _ _ _ (at_quarter 2) ?_
  refine View.allAt_cons_unit _ _ _ _ _ (at_quarter 1) ?_
  refine View.allAt_cons_unit _ _ _ _ _ (at_quarter 0) ?_
  exact View.allAt_nil y _

end Cert.KernelIdeal.Quantise

end
-- ==== Proof.Quant.Arrays.lean ====
/-
  WHAT THE QUANTISER LEAVES IN ITS THREE RESULT ARRAYS, on the extended reals: the codes, the scale codes and the
  dequantised values of the whole 4096 × 5120 input (`codesAll`, `scalesAll`, `deqAll`), each a function of the value
  and of the greatest magnitude of its group of 32 (`groupMax`). Grid point `t` reads and writes rows
  `256·t … 256·t + 255`; the sixteen blocks cover the rows.
-/
module

public import proofs.«01_k».proof.Proof.Quant.Scales
public import Idealize.ShloMosaic.Lib.Pipeline.Value

@[expose] public section

set_option maxRecDepth 16384

noncomputable section

namespace Cert.KernelIdeal.Quantise

open Cert.KernelIdeal Cert.KernelIdeal.Gen Idealize.ShloMosaic Idealize.ShloMosaic.TcCoe
open Idealize.ShloMosaic.Pipeline (Dat)

/-- The greatest magnitude of group `g` of row `r`. -/
def groupMax (x : Vec Ideal S4096x5120 .bf16) (r : Fin 4096) (g : Fin 160) : EReal :=
  greatest fun p => x (ix2 (n0 := 4096) (n1 := 5120) r ⟨32 * g.val + p.val, by omega⟩)

/-- The codes of the whole input. -/
def codesAll (x : Vec Ideal S4096x5120 .bf16) : Vec Ideal S4096x5120 .fp8e4m3 := fun y =>
  clip ((show EReal from x y) * invScale (groupMax x (y 0) (groupOf (y 1))))

/-- The scale codes of the whole input. -/
def scalesAll (x : Vec Ideal S4096x5120 .bf16) : Vec Ideal S4096x160 .i8 := fun y => scaleCode (groupMax x (y 0) (y 1))

/-- The dequantised values of the whole input. -/
def deqAll (x : Vec Ideal S4096x5120 .bf16) : Vec Ideal S4096x5120 .bf16 := fun y =>
  clip ((show EReal from x y) * invScale (groupMax x (y 0) (groupOf (y 1)))) * scale (groupMax x (y 0) (groupOf (y 1)))

/-- The windows' block indices at point `t`: row block `t`; the matrix is one block. -/
theorem index0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- Row `r` of block `t`, in the whole array. -/
def rowAll (t : Fin cfg0.N) (r : Fin 256) : Fin 4096 :=
  ⟨256 * t.val + r.val, by have h : t.val < 16 := Nat.lt_of_lt_of_eq t.isLt N_0; omega⟩

variable (V : (c : Dev nD) → (b : Ref sig .tc) → Buf (Elt Ideal) ((c : Thread nD τ).loc b))

/-- The block of the input that point `t` reads. -/
theorem input_apply (c : Dev nD) (t : Fin cfg0.N) (r : Fin 256) (k : Fin 5120) :
    iblk0 V c 0 t (ix2 (n0 := 256) (n1 := 5120) r k) = V c main_v0 (ix2 (n0 := 4096) (n1 := 5120) (rowAll t r) k) := by
  obtain ⟨⟨a0, a1⟩, -⟩ := index0 t
  refine congrArg (V c main_v0) (?_ : ((cfg0.win 0).blk t).view.emb (ix2 (n0 := 256) (n1 := 5120) r k) = _)
  funext a; apply Fin.ext
  match a with
  | ⟨0, _⟩ => show win0_0.index t (0 : Fin 2) * 256 + 1 * r.val = 256 * t.val + r.val; omega
  | ⟨1, _⟩ => show win0_0.index t (1 : Fin 2) * 5120 + 1 * k.val = k.val; omega

/-- The matrix is read whole at every point. -/
theorem places_block (c : Dev nD) (t : Fin cfg0.N) (h : Places (V c main_v51)) : Places (iblk0 V c 1 t) := by
  intro k n
  obtain ⟨-, ⟨b0, b1⟩, -⟩ := index0 t
  refine Eq.trans (congrArg (V c main_v51) (?_ : ((cfg0.win 1).blk t).view.emb (ix2 (n0 := 640) (n1 := 1024) k n)
    = ix2 (n0 := 640) (n1 := 1024) k n)) (h k n)
  funext a; apply Fin.ext
  match a with
  | ⟨0, _⟩ => show win0_1.index t (0 : Fin 2) * 640 + 1 * k.val = k.val; omega
  | ⟨1, _⟩ => show win0_1.index t (1 : Fin 2) * 1024 + 1 * n.val = n.val; omega

/-- A group's greatest magnitude in the block is its greatest magnitude in the whole array. -/
theorem blockMax_eq (c : Dev nD) (t : Fin cfg0.N) (r : Fin 256) (g : Fin 160) :
    blockMax (iblk0 V c 0 t) r g = groupMax (V c main_v0) (rowAll t r) g :=
  congrArg greatest (funext fun p => input_apply V c t r _)

theorem codes_block (c : Dev nD) (t : Fin cfg0.N) (r : Fin 256) (k : Fin 5120) :
    codesBlock (iblk0 V c 0 t) (ix2 (n0 := 256) (n1 := 5120) r k)
      = codesAll (V c main_v0) (ix2 (n0 := 4096) (n1 := 5120) (rowAll t r) k) := by
  show clip (_ * invScale (blockMax (iblk0 V c 0 t) r (groupOf k))) = clip (_ * invScale (groupMax (V c main_v0) (rowAll t r) (groupOf k)))
  rw [blockMax_eq, input_apply]

theorem deq_block (c : Dev nD) (t : Fin cfg0.N) (r : Fin 256) (k : Fin 5120) :
    deqBlock (iblk0 V c 0 t) (ix2 (n0 := 256) (n1 := 5120) r k)
      = deqAll (V c main_v0) (ix2 (n0 := 4096) (n1 := 5120) (rowAll t r) k) := by
  show clip (_ * invScale (blockMax (iblk0 V c 0 t) r (groupOf k))) * scale (blockMax (iblk0 V c 0 t) r (groupOf k))
    = clip (_ * invScale (groupMax (V c main_v0) (rowAll t r) (groupOf k))) * scale (groupMax (V c main_v0) (rowAll t r) (groupOf k))
  rw [blockMax_eq, input_apply]

theorem scales_block (c : Dev nD) (t : Fin cfg0.N) (r : Fin 256) (g : Fin 160) :
    scalesBlock (iblk0 V c 0 t) (ix2 (n0 := 256) (n1 := 160) r g)
      = scalesAll (V c main_v0) (ix2 (n0 := 4096) (n1 := 160) (rowAll t r) g) :=
  congrArg scaleCode (blockMax_eq V c t r g)

/-- What point `t` writes back of the codes is its block of them. -/
theorem flushed0_codes (c : Dev nD) (t : Fin cfg0.N) : (dat0 V c).flushed 2 t
    = ((cfg0.win 2).blk t).view.read (Elt Ideal) (codesAll (V c main_v0)) := by
  show (cfg0.win 2).cut (grid0.coords t) ((dat0 V c).after 2 t) = _
  rw [after0_2, codes_eq]
  obtain ⟨-, -, ⟨b0, b1⟩, -⟩ := index0 t
  funext j
  have e : (ix2 (n0 := 256) (n1 := 5120) (j 0) (j 1) : S256x5120.Idx) = j := funext fun a => match a with | ⟨0, _⟩ => rfl | ⟨1, _⟩ => rfl
  show codesBlock (iblk0 V c 0 t) j = _
  rw [← e]
  refine (codes_block V c t (j 0) (j 1)).trans (congrArg (codesAll (V c main_v0))
    (?_ : _ = ((cfg0.win 2).blk t).view.emb (ix2 (n0 := 256) (n1 := 5120) (j 0) (j 1))))
  funext a; apply Fin.ext
  match a with
  | ⟨0, _⟩ => show 256 * t.val + (j 0).val = win0_2.index t (0 : Fin 2) * 256 + 1 * (j 0).val; omega
  | ⟨1, _⟩ => show (j 1).val = win0_2.index t (1 : Fin 2) * 5120 + 1 * (j 1).val; omega

/-- The dequantised values likewise. -/
theorem flushed0_deq (c : Dev nD) (t : Fin cfg0.N) : (dat0 V c).flushed 4 t
    = ((cfg0.win 4).blk t).view.read (Elt Ideal) (deqAll (V c main_v0)) := by
  show (cfg0.win 4).cut (grid0.coords t) ((dat0 V c).after 4 t) = _
  rw [after0_4, deq_eq]
  obtain ⟨-, -, -, -, ⟨b0, b1⟩⟩ := index0 t
  funext j
  have e : (ix2 (n0 := 256) (n1 := 5120) (j 0) (j 1) : S256x5120.Idx) = j := funext fun a => match a with | ⟨0, _⟩ => rfl | ⟨1, _⟩ => rfl
  show deqBlock (iblk0 V c 0 t) j = _
  rw [← e]
  refine (deq_block V c t (j 0) (j 1)).trans (congrArg (deqAll (V c main_v0))
    (?_ : _ = ((cfg0.win 4).blk t).view.emb (ix2 (n0 := 256) (n1 := 5120) (j 0) (j 1))))
  funext a; apply Fin.ext
  match a with
  | ⟨0, _⟩ => show 256 * t.val + (j 0).val = win0_4.index t (0 : Fin 2) * 256 + 1 * (j 0).val; omega
  | ⟨1, _⟩ => show (j 1).val = win0_4.index t (1 : Fin 2) * 5120 + 1 * (j 1).val; omega

/-- The scale codes likewise. -/
theorem flushed0_scales (c : Dev nD) (hp : Places (V c main_v51)) (t : Fin cfg0.N) : (dat0 V c).flushed 3 t
    = ((cfg0.win 3).blk t).view.read (Elt Ideal) (scalesAll (V c main_v0)) := by
  show (cfg0.win 3).cut (grid0.coords t) ((dat0 V c).after 3 t) = _
  rw [after0_3, scales_eq _ _ (places_block V c t hp)]
  obtain ⟨-, -, -, ⟨b0, b1⟩, -⟩ := index0 t
  funext j
  have e : (ix2 (n0 := 256) (n1 := 160) (j 0) (j 1) : S256x160.Idx) = j := funext fun a => match a with | ⟨0, _⟩ => rfl | ⟨1, _⟩ => rfl
  show scalesBlock (iblk0 V c 0 t) j = _
  rw [← e]
  refine (scales_block V c t (j 0) (j 1)).trans (congrArg (scalesAll (V c main_v0))
    (?_ : _ = ((cfg0.win 3).blk t).view.emb (ix2 (n0 := 256) (n1 := 160) (j 0) (j 1))))
  funext a; apply Fin.ext
  match a with
  | ⟨0, _⟩ => show 256 * t.val + (j 0).val = win0_3.index t (0 : Fin 2) * 256 + 1 * (j 0).val; omega
  | ⟨1, _⟩ => show (j 1).val = win0_3.index t (1 : Fin 2) * 160 + 1 * (j 1).val; omega

/-- The point whose blocks hold row `r`. -/
def pointOf (r : ℕ) (h : r < 4096) : Fin cfg0.N := ⟨r / 256, Nat.lt_of_lt_of_eq (by omega : r / 256 < 16) N_0.symm⟩

/-- Every index of the codes is in some point's block. -/
theorem cover0_codes (i : S4096x5120.Idx) :
    ∃ t : Fin cfg0.N, (cfg0.win 2).flush t = true ∧ i ∈ ((cfg0.win 2).blk t).view.set := by
  have h1 : (i 1 : ℕ) < 5120 := (i 1).isLt
  refine ⟨pointOf (i 0) (i 0).isLt, flush0_2 _, ?_⟩
  obtain ⟨-, -, ⟨b0, b1⟩, -⟩ := index0 (pointOf (i 0) (i 0).isLt)
  show i ∈ ((View.whole main_v52_0).slice (win0_2.rect (pointOf (i 0) (i 0).isLt))).set
  rw [View.set_slice_whole, Rect.mem_set_unit]
  intro a
  match a with
  | ⟨0, _⟩ =>
    show win0_2.index _ (0 : Fin 2) * 256 ≤ (i 0 : ℕ) ∧ (i 0 : ℕ) < win0_2.index _ (0 : Fin 2) * 256 + 256
    rw [b0]; show (i 0 : ℕ) / 256 * 256 ≤ _ ∧ _ < (i 0 : ℕ) / 256 * 256 + 256; omega
  | ⟨1, _⟩ =>
    show win0_2.index _ (1 : Fin 2) * 5120 ≤ (i 1 : ℕ) ∧ (i 1 : ℕ) < win0_2.index _ (1 : Fin 2) * 5120 + 5120
    rw [b1]; omega

/-- Every index of the dequantised values likewise. -/
theorem cover0_deq (i : S4096x5120.Idx) :
    ∃ t : Fin cfg0.N, (cfg0.win 4).flush t = true ∧ i ∈ ((cfg0.win 4).blk t).view.set := by
  have h1 : (i 1 : ℕ) < 5120 := (i 1).isLt
  refine ⟨pointOf (i 0) (i 0).isLt, flush0_4 _, ?_⟩
  obtain ⟨-, -, -, -, ⟨b0, b1⟩⟩ := index0 (pointOf (i 0) (i 0).isLt)
  show i ∈ ((View.whole main_v52_2).slice (win0_4.rect (pointOf (i 0) (i 0).isLt))).set
  rw [View.set_slice_whole, Rect.mem_set_unit]
  intro a
  match a with
  | ⟨0, _⟩ =>
    show win0_4.index _ (0 : Fin 2) * 256 ≤ (i 0 : ℕ) ∧ (i 0 : ℕ) < win0_4.index _ (0 : Fin 2) * 256 + 256
    rw [b0]; show (i 0 : ℕ) / 256 * 256 ≤ _ ∧ _ < (i 0 : ℕ) / 256 * 256 + 256; omega
  | ⟨1, _⟩ =>
    show win0_4.index _ (1 : Fin 2) * 5120 ≤ (i 1 : ℕ) ∧ (i 1 : ℕ) < win0_4.index _ (1 : Fin 2) * 5120 + 5120
    rw [b1]; omega

/-- Every index of the scale codes likewise. -/
theorem cover0_scales (i : S4096x160.Idx) :
    ∃ t : Fin cfg0.N, (cfg0.win 3).flush t = true ∧ i ∈ ((cfg0.win 3).blk t).view.set := by
  have h1 : (i 1 : ℕ) < 160 := (i 1).isLt
  refine ⟨pointOf (i 0) (i 0).isLt, flush0_3 _, ?_⟩
  obtain ⟨-, -, -, ⟨b0, b1⟩, -⟩ := index0 (pointOf (i 0) (i 0).isLt)
  show i ∈ ((View.whole main_v52_1).slice (win0_3.rect (pointOf (i 0) (i 0).isLt))).set
  rw [View.set_slice_whole, Rect.mem_set_unit]
  intro a
  match a with
  | ⟨0, _⟩ =>
    show win0_3.index _ (0 : Fin 2) * 256 ≤ (i 0 : ℕ) ∧ (i 0 : ℕ) < win0_3.index _ (0 : Fin 2) * 256 + 256
    rw [b0]; show (i 0 : ℕ) / 256 * 256 ≤ _ ∧ _ < (i 0 : ℕ) / 256 * 256 + 256; omega
  | ⟨1, _⟩ =>
    show win0_3.index _ (1 : Fin 2) * 160 ≤ (i 1 : ℕ) ∧ (i 1 : ℕ) < win0_3.index _ (1 : Fin 2) * 160 + 160
    rw [b1]; omega

/-- The three result arrays after the last point. -/
theorem final0_codes (c : Dev nD) : (dat0 V c).arrAt 2 cfg0.N = codesAll (V c main_v0) :=
  (dat0 V c).arrAt_eq_of_cover 2 (codesAll (V c main_v0)) (fun t _ => flushed0_codes V c t) cover0_codes

theorem final0_scales (c : Dev nD) (hp : Places (V c main_v51)) : (dat0 V c).arrAt 3 cfg0.N = scalesAll (V c main_v0) :=
  (dat0 V c).arrAt_eq_of_cover 3 (scalesAll (V c main_v0)) (fun t _ => flushed0_scales V c hp t) cover0_scales

theorem final0_deq (c : Dev nD) : (dat0 V c).arrAt 4 cfg0.N = deqAll (V c main_v0) :=
  (dat0 V c).arrAt_eq_of_cover 4 (deqAll (V c main_v0)) (fun t _ => flushed0_deq V c t) cover0_deq

end Cert.KernelIdeal.Quantise

end
-- ==== Proof.Quant.Matrix.lean ====
/-
  THE MATRIX THAT GATHERS THE SCALE CODES. The host computes it from the row and the column numbers by shifts, masks and
  one comparison (`columnWord`); it has the places that the quantiser's product needs (`matrix_places`).
-/
module

public import proofs.«01_k».proof.Proof.Quant.Scales
public import proofs.«01_k».proof.Proof.Gen.KernelIdeal.Frame.Fold0

@[expose] public section

set_option maxRecDepth 16384

noncomputable section

namespace Cert.KernelIdeal.Quantise

open Cert.KernelIdeal Cert.KernelIdeal.Gen Idealize.ShloMosaic Idealize.ShloMosaic.TcCoe Idealize.ShloMosaic.Tactic

/-- Bit `n` of the lane number of row `w`. -/
def laneBit (w n : BitVec 32) : BitVec 32 := IntOp.shrui .host (w &&& 127#32) n &&& 1#32

/-- The column of the 1 of row `w`, as the host computes it. -/
def columnWord (w : BitVec 32) : BitVec 32 :=
  (laneBit w 0#32 + 2#32 * laneBit w 1#32) * 2#32 * 128#32
    + (4#32 * (IntOp.shrui .host w 7#32 + 5#32 * (laneBit w 2#32 + 2#32 * laneBit w 3#32 + 4#32 * laneBit w 4#32))
      + IntOp.shrui .host (w &&& 127#32) 5#32)

theorem columnWord_eq : ∀ k : Fin 640, columnWord (BitVec.ofNat 32 k.val) = BitVec.ofNat 32 (columnOf k.val) := by
  decide +kernel

theorem columnOf_lt : ∀ k : Fin 640, columnOf k.val < 1024 := by decide +kernel

variable (m : (ℓ : Loc nD τ sig) → Buf (Elt Ideal) ℓ) (ρ : Dev nD → PrngReg)

/-- The comparison of the column with the row's column. -/
theorem entry_compare (c : Dev nD) : W1 m ρ c (Proc.devRef .tc main_v49)
    = fun i : S640x1024.Idx => IntOp.cmpi .eq (BitVec.ofNat 32 (i 1).val) (columnWord (BitVec.ofNat 32 (i 0).val)) := by
  show StableHlo.after hostOps0 (W0 m ρ c) (Proc.devRef .tc main_v49) = _
  simp only [hostOps0]
  after_results_simp
  rfl

theorem entry_one (c : Dev nD) : W1 m ρ c (Proc.devRef .tc main_cst) = constant (F := Ideal) S_ .f32 0x3F800000#32 := by
  show StableHlo.after hostOps0 (W0 m ρ c) (Proc.devRef .tc main_cst) = _
  simp only [hostOps0]
  after_results_simp

theorem entry_zero (c : Dev nD) : W1 m ρ c (Proc.devRef .tc main_cst_19) = constant (F := Ideal) S_ .f32 0x00000000#32 := by
  show StableHlo.after hostOps0 (W0 m ρ c) (Proc.devRef .tc main_cst_19) = _
  simp only [hostOps0]
  after_results_simp

/-- The matrix: 1 where the comparison holds, else 0. -/
theorem entry_matrix (c : Dev nD) : V3 m ρ c main_v51
    = fun i : S640x1024.Idx => Scalar.select (IntOp.cmpi .eq (BitVec.ofNat 32 (i 1).val) (columnWord (BitVec.ofNat 32 (i 0).val)))
        (Ideal.ofBits .f32 0x3F800000#32) (Ideal.ofBits .f32 0x00000000#32) := by
  have h2 : W2 m ρ c (Proc.devRef .tc main_v50) = select (W1 m ρ c (Proc.devRef .tc main_v49))
      (broadcastInDim S640x1024 ![] bcast_S_S640x1024 (W1 m ρ c (Proc.devRef .tc main_cst)))
      (broadcastInDim S640x1024 ![] bcast_S_S640x1024 (W1 m ρ c (Proc.devRef .tc main_cst_19))) := by
    show StableHlo.after hostOps0_1 (W1 m ρ c) (Proc.devRef .tc main_v50) = _
    generalize W1 m ρ c = W
    simp only [hostOps0_1]
    after_results <;> rfl
  have h3 : V3 m ρ c main_v51
      = truncf (F := Ideal) (φ := .f32) (s := S640x1024) .bf16 (W2 m ρ c (Proc.devRef .tc main_v50)) bitsLt_bf16_f32 := by
    show StableHlo.after hostOps0_2 (W2 m ρ c) (Proc.devRef .tc main_v51) = _
    generalize W2 m ρ c = W
    simp only [hostOps0_2]
    after_results <;> rfl
  rw [h3, h2, entry_compare, entry_one, entry_zero]
  rfl

theorem one_f32 : Ideal.ofBits .f32 0x3F800000#32 = 1 := by
  show Ideal.ieee 8 23 (0x3F800000#32) = _
  unfold Ideal.ieee
  simp only [show ((0x3F800000#32).extractLsb' 31 1 == 1#1) = false from rfl,
    show ((0x3F800000#32).extractLsb' 23 8).toNat = 127 from rfl, show ((0x3F800000#32).extractLsb' 0 23).toNat = 0 from rfl,
    Nat.reduceAdd, Bool.false_eq_true, if_false]
  rw [if_neg (by norm_num), if_neg (by norm_num)]
  norm_num

/-- It has the places the product needs. -/
theorem matrix_places (c : Dev nD) : Places (V3 m ρ c main_v51) := by
  intro k n
  have hk := columnOf_lt k
  have hn := n.isLt
  refine (congrFun (entry_matrix m ρ c) (ix2 (n0 := 640) (n1 := 1024) k n)).trans ?_
  show Scalar.select (IntOp.cmpi .eq (BitVec.ofNat 32 n.val) (columnWord (BitVec.ofNat 32 k.val))) _ _ = _
  rw [columnWord_eq k, one_f32, Ideal.ofBits_zero_f32]
  by_cases e : n.val = columnOf k.val
  · rw [if_pos e, e]
    show Scalar.select (BitVec.ofBool (BitVec.ofNat 32 (columnOf k.val) == BitVec.ofNat 32 (columnOf k.val))) _ _ = _
    rw [beq_self_eq_true]; rfl
  · rw [if_neg e]
    show Scalar.select (BitVec.ofBool (BitVec.ofNat 32 n.val == BitVec.ofNat 32 (columnOf k.val))) _ _ = _
    rw [show (BitVec.ofNat 32 n.val == BitVec.ofNat 32 (columnOf k.val)) = false from beq_eq_false_iff_ne.2 fun h => e (by
      have := congrArg BitVec.toNat h
      simp only [BitVec.toNat_ofNat] at this
      omega)]
    rfl

end Cert.KernelIdeal.Quantise

end
-- ==== Proof.Run.lean ====
/-
  THE KERNEL'S RUN ON THE EXTENDED REALS: from any memory it ends with its three result arrays at functions of its four
  arguments (`resultY`, `resultCodes`, `resultScales`, `run`): the product of the dequantised activations with the
  decoded weights plus the bias, the codes and the scale codes of the activations.
-/
module

public import proofs.«01_k».proof.Proof.Weights
public import proofs.«01_k».proof.Proof.Product
public import proofs.«01_k».proof.Proof.Scale
public import proofs.«01_k».proof.Proof.Quant.Arrays
public import proofs.«01_k».proof.Proof.Quant.Matrix
public import proofs.«01_k».proof.Proof.Gen.KernelIdeal.Frame

@[expose] public section

set_option maxRecDepth 16384

noncomputable section

namespace Cert.KernelIdeal.Value

open Cert.KernelIdeal Cert.KernelIdeal.Gen Cert.KernelIdeal.Decode Cert.KernelIdeal.Product Cert.KernelIdeal.Quantise Cert.Scale
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The bias as one row. -/
def biasRow (b : Vec Ideal S5120 .f32) : Vec Ideal S1x5120 .f32 := shapeCast S1x5120 b shapeCasts_S5120_S1x5120

/-- The activations as one matrix. -/
def flat (x : Vec Ideal S1x4096x5120 .bf16) : Vec Ideal S4096x5120 .bf16 := shapeCast S4096x5120 x shapeCasts_S1x4096x5120_S4096x5120

/-- The product, as one matrix. -/
def productOf (x : Vec Ideal S4096x5120 .bf16) (wc : Vec Ideal S5120x5120 .fp8e4m3) (ws : Vec Ideal S5120x160 .i8)
    (b : Vec Ideal S5120 .f32) : Vec Ideal S4096x5120 .bf16 := product (deqAll x) (decodedAll wc ws) (biasRow b)

/-- What the kernel computes of its four arguments. -/
def resultY (x : Vec Ideal S1x4096x5120 .bf16) (wc : Vec Ideal S5120x5120 .fp8e4m3) (ws : Vec Ideal S5120x160 .i8)
    (b : Vec Ideal S5120 .f32) : Vec Ideal S1x4096x5120 .bf16 :=
  shapeCast S1x4096x5120 (productOf (flat x) wc ws b) shapeCasts_S4096x5120_S1x4096x5120
def resultCodes (x : Vec Ideal S1x4096x5120 .bf16) : Vec Ideal S1x4096x5120 .fp8e4m3 :=
  shapeCast S1x4096x5120 (codesAll (flat x)) shapeCasts_S4096x5120_S1x4096x5120
def resultScales (x : Vec Ideal S1x4096x5120 .bf16) : Vec Ideal S1x4096x160 .i8 :=
  shapeCast S1x4096x160 (scalesAll (flat x)) shapeCasts_S4096x160_S1x4096x160

/-- The product at an index, as one sum over the contracted axis. -/
theorem productOf_apply (x : Vec Ideal S4096x5120 .bf16) (wc : Vec Ideal S5120x5120 .fp8e4m3) (ws : Vec Ideal S5120x160 .i8)
    (b : Vec Ideal S5120 .f32) (r : Fin 4096) (n : Fin 5120) :
    (productOf x wc ws b (ix2 (n0 := 4096) (n1 := 5120) r n) : EReal)
      = (∑ k : Fin 5120, (show EReal from deqAll x (ix2 (n0 := 4096) (n1 := 5120) r k))
          * ((show EReal from wc (ix2 (n0 := 5120) (n1 := 5120) n k))
            * scaleOf (ws (ix2 (n0 := 5120) (n1 := 160) n ⟨(k : ℕ) / 32, by have h : (k : ℕ) < 5120 := k.isLt; omega⟩))))
        + (show EReal from b (at1 n)) := by
  refine congrArg₂ (fun a b : EReal => a + b) rfl ?_
  refine shapeCast_apply b shapeCasts_S5120_S1x5120 (ix2 (n0 := 1) (n1 := 5120) 0 n) (at1 n) ?_
  rewrite [Shape.rowMajor_val_one, Shape.rowMajor_val_two]
  show (n : ℕ) = 0 * 5120 + (n : ℕ)
  omega

variable (m : (ℓ : Loc nD τ sig) → Buf (Elt Ideal) ℓ) (ρ : Dev nD → PrngReg)

/-- When the quantiser starts, its operand holds the activations as one matrix. -/
theorem entry_x (c : Dev nD) : V3 m ρ c main_v0 = flat (m ((c : Thread nD τ).loc main_arg0)) := by
  refine (W3_of m ρ c main_v0 (by decide)).trans ((W2_of m ρ c main_v0 (by decide)).trans ?_)
  show StableHlo.after hostOps0 (W0 m ρ c) (Proc.devRef .tc main_v0) = _
  simp only [hostOps0]
  after_results_simp
  rfl

/-- When the product starts, its first operand holds the dequantised activations. -/
theorem entry_deq (c : Dev nD) : V6 m ρ c main_v52_2 = deqAll (flat (m ((c : Thread nD τ).loc main_arg0))) :=
  (W6_of m ρ c main_v52_2 (by decide)).trans ((W5_of m ρ c main_v52_2 (by decide)).trans
    ((W4_arr m ρ c 4).trans ((final0_deq (V3 m ρ) c).trans (congrArg deqAll (entry_x m ρ c)))))

/-- When the product starts, its second operand holds the decoded weights. -/
theorem entry_weights (c : Dev nD) :
    V6 m ρ c main_v53 = decodedAll (m ((c : Thread nD τ).loc main_arg1)) (m ((c : Thread nD τ).loc main_arg2)) :=
  (W6_of m ρ c main_v53 (by decide)).trans ((W5_arr m ρ c 2).trans ((final1 (V4 m ρ) c).trans
    (congrArg₂ decodedAll (W4_args m ρ c main_arg1 (by decide)) (W4_args m ρ c main_arg2 (by decide)))))

/-- When the product starts, its third operand holds the bias as a row. -/
theorem entry_bias (c : Dev nD) : V6 m ρ c main_v54 = biasRow (m ((c : Thread nD τ).loc main_arg3)) := by
  have h : W5 m ρ c (Proc.devRef .tc main_arg3) = m ((c : Thread nD τ).loc main_arg3) := W5_args m ρ c main_arg3 (by decide)
  rw [← h]
  show StableHlo.after hostOps2 (W5 m ρ c) (Proc.devRef .tc main_v54) = _
  simp only [hostOps2]
  after_results <;> rfl

/-- The three result arrays after the run. -/
theorem W8_y (c : Dev nD) : W8 m ρ c (Proc.devRef .tc main_v56)
    = resultY (m ((c : Thread nD τ).loc main_arg0)) (m ((c : Thread nD τ).loc main_arg1)) (m ((c : Thread nD τ).loc main_arg2))
        (m ((c : Thread nD τ).loc main_arg3)) := by
  have h : W7 m ρ c (Proc.devRef .tc main_v55) = productOf (flat (m ((c : Thread nD τ).loc main_arg0)))
      (m ((c : Thread nD τ).loc main_arg1)) (m ((c : Thread nD τ).loc main_arg2)) (m ((c : Thread nD τ).loc main_arg3)) :=
    (W7_arr m ρ c 3).trans ((final2 (V6 m ρ) c).trans (by rw [entry_deq, entry_weights, entry_bias]; rfl))
  unfold resultY
  rw [← h]
  show StableHlo.after hostOps3 (W7 m ρ c) (Proc.devRef .tc main_v56) = _
  simp only [hostOps3]
  after_results <;> rfl

theorem W8_codes (c : Dev nD) : W8 m ρ c (Proc.devRef .tc main_v57) = resultCodes (m ((c : Thread nD τ).loc main_arg0)) := by
  have h : W7 m ρ c (Proc.devRef .tc main_v52_0) = codesAll (flat (m ((c : Thread nD τ).loc main_arg0))) :=
    (W7_of m ρ c main_v52_0 (by decide)).trans ((W6_of m ρ c main_v52_0 (by decide)).trans ((W5_of m ρ c main_v52_0 (by decide)).trans
      ((W4_arr m ρ c 2).trans ((final0_codes (V3 m ρ) c).trans (congrArg codesAll (entry_x m ρ c))))))
  unfold resultCodes
  rw [← h]
  show StableHlo.after hostOps3 (W7 m ρ c) (Proc.devRef .tc main_v57) = _
  simp only [hostOps3]
  after_results <;> rfl

theorem W8_scales (c : Dev nD) : W8 m ρ c (Proc.devRef .tc main_v58) = resultScales (m ((c : Thread nD τ).loc main_arg0)) := by
  have h : W7 m ρ c (Proc.devRef .tc main_v52_1) = scalesAll (flat (m ((c : Thread nD τ).loc main_arg0))) :=
    (W7_of m ρ c main_v52_1 (by decide)).trans ((W6_of m ρ c main_v52_1 (by decide)).trans ((W5_of m ρ c main_v52_1 (by decide)).trans
      ((W4_arr m ρ c 3).trans ((final0_scales (V3 m ρ) c (matrix_places m ρ c)).trans (congrArg scalesAll (entry_x m ρ c))))))
  unfold resultScales
  rw [← h]
  show StableHlo.after hostOps3 (W7 m ρ c) (Proc.devRef .tc main_v58) = _
  simp only [hostOps3]
  after_results <;> rfl

set_option backward.isDefEq.respectTransparency.types false in
/-- The run: the three result arrays at their functions of the arguments, the arguments as launched. -/
theorem run : θ_run defs (onTc (τ := τ) (main (F := Ideal))) ⟨m, fun _ => 0, ρ⟩ (fun r => ∀ c : Dev nD,
      r.2.mem ((c.tc : Thread nD τ).loc main_v56)
        = resultY (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_v57) = resultCodes (m ((c.tc : Thread nD τ).loc main_arg0))
      ∧ r.2.mem ((c.tc : Thread nD τ).loc main_v58) = resultScales (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c =>
      ⟨(h c _ (mem_uc main_v56 (by decide))).trans (W8_y m ρ c),
       (h c _ (mem_uc main_v57 (by decide))).trans (W8_codes m ρ c),
       (h c _ (mem_uc main_v58 (by decide))).trans (W8_scales m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.KernelIdeal.Value

end
-- ==== Proof.Exponent.lean ====
/-
  THE EXPONENT OF A GROUP'S SCALE, FOUND TWO WAYS, on the extended reals. Let `t` be the group's greatest magnitude times
  1/448. The quantiser finds the exponent field of `t` by a binary search over the numbers `2 ^ (n - 127)`; the plain
  formula counts the powers of two that `t` reaches. For a greatest magnitude that is 0, or finite with `t` at least
  `2 ^ (-126)`, both give `s - 127` for one scale code `s` from 1 to 253 (`exponents_eq`). The quantiser's reciprocal
  scale, scale and code byte are then `2 ^ (127 - s)`, `2 ^ (s - 127)` and `s`.
-/
module

public import proofs.«01_k».proof.Proof.Scale
public import proofs.«01_k».proof.Proof.Quant.Scales
public import Idealize.ShloMosaic.Lib.StableHlo.Predicate
public import Mathlib.Algebra.Order.Archimedean.Basic

@[expose] public section

noncomputable section

namespace Cert.Exponent

open Idealize.ShloMosaic Cert.KernelIdeal.Decode Cert.KernelIdeal.Quantise Cert.Scale

/-! ## The constants -/

/-- The f32 with clear sign bit, exponent field `e` in the middle range and fraction `f`. -/
theorem ieee_normal (b : BitVec 32) (e f : ℕ) (hs : (b.extractLsb' 31 1 == 1#1) = false) (he : (b.extractLsb' 23 8).toNat = e)
    (hf : (b.extractLsb' 0 23).toNat = f) (h0 : e ≠ 0) (h1 : e ≠ 255) :
    Ideal.ofBits .f32 b = (((2 ^ 23 + f : ℕ) * (2 : ℝ) ^ ((e : ℤ) - 150) : ℝ) : EReal) := by
  show Ideal.ieee 8 23 b = _
  unfold Ideal.ieee
  simp only [hs, he, hf, Nat.reduceAdd, Bool.false_eq_true, if_false]
  rw [if_neg (by omega), if_neg (by omega)]
  refine congrArg _ ?_
  rw [show ((e : ℤ) - (2 ^ (8 - 1) - 1) - (23 : ℕ)) = (e : ℤ) - 150 by norm_num; ring, one_mul]

/-- 1/448 as the programs hold it. -/
theorem inv448 : Ideal.ofBits .f32 0x3B124925#32 = (((9586981 : ℝ) * (2 : ℝ) ^ (-32 : ℤ) : ℝ) : EReal) := by
  rw [ieee_normal 0x3B124925#32 118 1198373 rfl rfl rfl (by norm_num) (by norm_num)]
  norm_num

/-- The greatest finite bf16. -/
theorem bf16Max : Ideal.ofBits .f32 0x7F7F0000#32 = (((16711680 : ℝ) * (2 : ℝ) ^ (104 : ℤ) : ℝ) : EReal) := by
  rw [ieee_normal 0x7F7F0000#32 254 8323072 rfl rfl rfl (by norm_num) (by norm_num)]
  norm_num

/-- The least positive normal f32. -/
theorem leastNormal : Ideal.ofBits .f32 0x00800000#32 = (((2 : ℝ) ^ (-126 : ℤ) : ℝ) : EReal) := by
  rw [ieee_normal 0x00800000#32 1 0 rfl rfl rfl (by norm_num) (by norm_num)]
  norm_num

theorem cmp_olt (x y : EReal) : Ideal.cmp .olt x y = 1#1 ↔ x < y := by
  show BitVec.ofBool (decide (x < y)) = 1#1 ↔ _
  by_cases h : x < y <;> simp [h]

theorem cmp_oge (x y : EReal) : Ideal.cmp .oge x y = 1#1 ↔ y ≤ x := by
  show BitVec.ofBool (decide (y ≤ x)) = 1#1 ↔ _
  by_cases h : y ≤ x <;> simp [h]

theorem cmp_ole (x y : EReal) : Ideal.cmp .ole x y = 1#1 ↔ x ≤ y := by
  show BitVec.ofBool (decide (x ≤ y)) = 1#1 ↔ _
  by_cases h : x ≤ y <;> simp [h]

theorem cmp_oeq (x y : EReal) : Ideal.cmp .oeq x y = 1#1 ↔ x = y := by
  show BitVec.ofBool (decide (x = y)) = 1#1 ↔ _
  by_cases h : x = y <;> simp [h]

/-! ## The quantiser's search -/

/-- One step of the search, on the position sought. -/
def stepAt (k : ℕ) (b f : BitVec 32) : BitVec 32 := if k < (f + b).toNat then f else f + b

/-- The eight steps find the position, each trial between 1 and 255. -/
theorem search_at : ∀ k : Fin 256,
    let f1 := stepAt k 128#32 0#32; let f2 := stepAt k 64#32 f1; let f3 := stepAt k 32#32 f2; let f4 := stepAt k 16#32 f3
    let f5 := stepAt k 8#32 f4; let f6 := stepAt k 4#32 f5; let f7 := stepAt k 2#32 f6
    (f1 + 64#32).toNat ≤ 255 ∧ (f2 + 32#32).toNat ≤ 255 ∧ (f3 + 16#32).toNat ≤ 255 ∧ (f4 + 8#32).toNat ≤ 255
      ∧ (f5 + 4#32).toNat ≤ 255 ∧ (f6 + 2#32).toNat ≤ 255 ∧ (f7 + 1#32).toNat ≤ 255
      ∧ 1 ≤ (f1 + 64#32).toNat ∧ 1 ≤ (f2 + 32#32).toNat ∧ 1 ≤ (f3 + 16#32).toNat ∧ 1 ≤ (f4 + 8#32).toNat
      ∧ 1 ≤ (f5 + 4#32).toNat ∧ 1 ≤ (f6 + 2#32).toNat ∧ 1 ≤ (f7 + 1#32).toNat
      ∧ stepAt k 1#32 f7 = BitVec.ofNat 32 k := by
  decide +kernel

/-- A trial's word is the word of a code. -/
theorem trial_word (n : BitVec 32) (h : n.toNat ≤ 255) : n = (BitVec.ofNat 8 n.toNat).setWidth 32 := by
  apply BitVec.eq_of_toNat_eq
  simp only [BitVec.toNat_setWidth, BitVec.toNat_ofNat]
  omega

theorem step_eq (t : EReal) (k : ℕ) (ht : ∀ s : BitVec 8, 1 ≤ s.toNat → (t < scaleOf s ↔ k < s.toNat)) (b f : BitVec 32)
    (h2 : (f + b).toNat ≤ 255) (h1 : 1 ≤ (f + b).toNat) : fieldStep1 t b f = stepAt k b f := by
  have hs : (BitVec.ofNat 8 (f + b).toNat).toNat = (f + b).toNat := by rw [BitVec.toNat_ofNat]; omega
  have e : Ideal.ofBits .f32 (IntOp.shli .vector (f + b) 23#32) = scaleOf (BitVec.ofNat 8 (f + b).toNat) := by
    unfold scaleOf
    rw [← trial_word (f + b) h2]
    rfl
  unfold fieldStep1 stepAt
  rw [e]
  refine if_congr ((cmp_olt _ _).trans ((ht _ (by omega)).trans ?_)) rfl rfl
  rw [hs]

/-- The search finds the position of `t` among the numbers of the codes. -/
theorem field_at (t : EReal) (k : Fin 256) (ht : ∀ s : BitVec 8, 1 ≤ s.toNat → (t < scaleOf s ↔ k.val < s.toNat)) :
    field1 t = BitVec.ofNat 32 k := by
  obtain ⟨a1, a2, a3, a4, a5, a6, a7, b1, b2, b3, b4, b5, b6, b7, e⟩ := search_at k
  unfold field1
  rw [step_eq t k ht 128#32 0#32 (by decide) (by decide), step_eq t k ht 64#32 _ a1 b1, step_eq t k ht 32#32 _ a2 b2,
    step_eq t k ht 16#32 _ a3 b3, step_eq t k ht 8#32 _ a4 b4, step_eq t k ht 4#32 _ a5 b5, step_eq t k ht 2#32 _ a6 b6,
    step_eq t k ht 1#32 _ a7 b7]
  exact e

/-! ## The plain count -/

/-- The `j`-th power of two the plain formula compares with. -/
def power (j : BitVec 32) : EReal :=
  FloatOps.hostPowf (F := Ideal) (φ := .f32) (FloatOps.ofBits .f32 0x40000000#32)
    (FloatOps.sitofp .f32 (IntOp.addi 4294967170#32 j))

/-- The number of powers that `t` reaches, as a sum of words. -/
def count (t : EReal) : BitVec 32 :=
  Finset.univ.fold IntOp.addi 0#32 fun j : Fin 253 => (Ideal.cmp .oge t (power (BitVec.ofNat 32 j.val))).setWidth 32

/-- The exponent of the plain formula. -/
def plainExp (a : EReal) : BitVec 32 :=
  if Ideal.cmp .oeq a (Ideal.ofBits .f32 0x00000000#32) = 1#1 then 0#32
  else IntOp.addi 4294967170#32 (count (a * Ideal.ofBits .f32 0x3B124925#32))

theorem two_f32 : (FloatOps.ofBits (F := Ideal) .f32 0x40000000#32 : EReal) = ((2 : ℝ) : EReal) := by
  refine (ieee_normal 0x40000000#32 128 0 rfl rfl rfl (by norm_num) (by norm_num)).trans (congrArg _ ?_)
  norm_num

/-- Two raised to a word. -/
theorem pow_word (w : BitVec 32) :
    (FloatOps.hostPowf (F := Ideal) (φ := .f32) (FloatOps.ofBits .f32 0x40000000#32) (FloatOps.sitofp .f32 w) : EReal)
      = (((2 : ℝ) ^ (w.toInt) : ℝ) : EReal) := by
  rw [two_f32]
  show Ideal.pow ((2 : ℝ) : EReal) (((w.toInt : ℤ) : ℝ) : EReal) = _
  rw [Ideal.pow_coe_coe]
  exact congrArg (fun r : ℝ => (r : EReal)) (Real.rpow_intCast 2 _)

theorem power_word : ∀ j : Fin 253, (IntOp.addi 4294967170#32 (BitVec.ofNat 32 j.val)).toInt = (j.val : ℤ) - 126 := by
  decide +kernel

theorem power_eq (j : Fin 253) : power (BitVec.ofNat 32 j.val) = (((2 : ℝ) ^ ((j.val : ℤ) - 126) : ℝ) : EReal) := by
  unfold power
  rw [pow_word, power_word]

theorem card_below (q : ℕ) (hq : q ≤ 253) : (Finset.univ.filter fun j : Fin 253 => j.val < q).card = q := by
  have e : (Finset.univ.filter fun j : Fin 253 => j.val < q) = Finset.univ.map (Fin.castLEEmb hq) := by
    ext j
    simp only [Finset.mem_filter, Finset.mem_univ, true_and, Finset.mem_map]
    exact ⟨fun h => ⟨⟨j.val, h⟩, Fin.ext rfl⟩, fun ⟨i, hi⟩ => by rw [← hi]; exact i.isLt⟩
  rw [e, Finset.card_map, Finset.card_univ, Fintype.card_fin]

/-- The count is the position of `t` among the powers. -/
theorem count_at (t : EReal) (q : ℕ) (hq : q ≤ 253)
    (ht : ∀ j : Fin 253, (((2 : ℝ) ^ ((j.val : ℤ) - 126) : ℝ) : EReal) ≤ t ↔ j.val < q) : count t = BitVec.ofNat 32 q := by
  have hv : ∀ j : Fin 253, ((Ideal.cmp .oge t (power (BitVec.ofNat 32 j.val))).setWidth 32).toNat = if j.val < q then 1 else 0 := fun j => by
    rw [StableHlo.Predicate.toNat_setWidth_bit]
    exact if_congr ((cmp_oge _ _).trans (by rw [power_eq]; exact ht j)) rfl rfl
  have hs : (∑ j : Fin 253, ((Ideal.cmp .oge t (power (BitVec.ofNat 32 j.val))).setWidth 32).toNat) = q := by
    rw [Finset.sum_congr rfl fun j _ => hv j, ← Finset.card_filter]
    exact card_below q hq
  apply BitVec.eq_of_toNat_eq
  unfold count
  rw [StableHlo.Predicate.toNat_fold_addi _ _ (by rw [hs]; omega), hs, BitVec.toNat_ofNat]
  omega

/-! ## Both at one greatest magnitude -/

/-- A greatest magnitude for which both exponents are the same: at most the greatest finite bf16; 0, or at least
    `2 ^ (-126)` after the product with 1/448. -/
def Fits (a : EReal) : Prop :=
  a ≤ Ideal.ofBits .f32 0x7F7F0000#32
    ∧ (a = Ideal.ofBits .f32 0x00000000#32 ∨ Ideal.ofBits .f32 0x00800000#32 ≤ a * Ideal.ofBits .f32 0x3B124925#32)

/-- The threshold is a real number between `2 ^ (-126)` and `2 ^ 120`. -/
theorem threshold_real (a : EReal) (h1 : a ≤ Ideal.ofBits .f32 0x7F7F0000#32)
    (h2 : Ideal.ofBits .f32 0x00800000#32 ≤ a * Ideal.ofBits .f32 0x3B124925#32) :
    ∃ t : ℝ, a * Ideal.ofBits .f32 0x3B124925#32 = (t : EReal) ∧ (2 : ℝ) ^ (-126 : ℤ) ≤ t ∧ t < (2 : ℝ) ^ (120 : ℤ) := by
  rw [leastNormal, inv448] at h2
  rw [bf16Max] at h1
  rw [inv448]
  induction a with
  | bot =>
    exfalso
    rw [EReal.bot_mul_coe_of_pos (by positivity)] at h2
    exact absurd (le_bot_iff.1 h2) (EReal.coe_ne_bot _)
  | top => exact absurd (top_le_iff.1 h1) (EReal.coe_ne_top _)
  | coe r =>
    rw [← EReal.coe_mul] at h2 ⊢
    refine ⟨_, rfl, EReal.coe_le_coe_iff.1 h2, ?_⟩
    have h := EReal.coe_le_coe_iff.1 h1
    refine lt_of_le_of_lt (mul_le_mul_of_nonneg_right h (by positivity)) ?_
    norm_num

theorem zpow_le_iff (z n : ℤ) (t : ℝ) (h1 : (2 : ℝ) ^ z ≤ t) (h2 : t < (2 : ℝ) ^ (z + 1)) : (2 : ℝ) ^ n ≤ t ↔ n ≤ z := by
  constructor
  · intro h
    have := (zpow_lt_zpow_iff_right₀ (by norm_num : (1 : ℝ) < 2)).1 (lt_of_le_of_lt h h2)
    omega
  · intro h
    exact le_trans (zpow_le_zpow_right₀ (by norm_num : (1 : ℝ) ≤ 2) h) h1

theorem scaleOf_ieee (s : BitVec 8) : scaleOf s = Ideal.ieee 8 23 (s.setWidth 32 <<< 23#32) := rfl

/-- The number with exponent field 255 is infinite. -/
theorem scaleOf_last : scaleOf 255#8 = ⊤ := by
  rw [scaleOf_ieee]
  unfold Ideal.ieee
  obtain ⟨hs, he, hf⟩ := fields 255#8
  simp only [hs, he, hf, Nat.reduceAdd, Bool.false_eq_true, if_false]
  rw [if_pos (by decide), if_pos trivial]

/-- The last words of the quantiser's exponent, on a code. -/
theorem last_words : ∀ s : BitVec 8, 1 ≤ s.toNat → s.toNat ≤ 253 →
    IntOp.minsi 127#32 (IntOp.maxsi 4294967170#32 (s.setWidth 32 - 127#32)) = s.setWidth 32 - 127#32
    ∧ (2 ≤ s.toNat → IntOp.cmpi .eq (s.setWidth 32 - 1#32) 0#32 = 0#1
        ∧ s.setWidth 32 - 1#32 - 126#32 = s.setWidth 32 - 127#32
        ∧ IntOp.addi 4294967170#32 (s.setWidth 32 - 1#32) = s.setWidth 32 - 127#32) := by
  decide +kernel

/-- Both exponents are one code's. -/
theorem exponents_eq (a : EReal) (h : Fits a) : ∃ s : BitVec 8, 1 ≤ s.toNat ∧ s.toNat ≤ 253
    ∧ scaleExp a = s.setWidth 32 - 127#32 ∧ plainExp a = s.setWidth 32 - 127#32 := by
  obtain ⟨h1, h2⟩ := h
  by_cases h0 : a = Ideal.ofBits .f32 0x00000000#32
  · refine ⟨127#8, by decide, by decide, ?_, ?_⟩
    · unfold scaleExp
      rw [if_pos ((cmp_oeq _ _).2 h0)]
      decide
    · unfold plainExp
      rw [if_pos ((cmp_oeq _ _).2 h0)]
      decide
  · obtain ⟨t, et, t1, t2⟩ := threshold_real a h1 (h2.resolve_left h0)
    have tpos : 0 < t := lt_of_lt_of_le (by positivity) t1
    obtain ⟨z, z1, z2⟩ := exists_mem_Ico_zpow tpos (by norm_num : (1 : ℝ) < 2)
    have zlo : -126 ≤ z := (zpow_le_iff z (-126) t z1 z2).1 t1
    have zhi : z < 120 := (zpow_lt_zpow_iff_right₀ (by norm_num : (1 : ℝ) < 2)).1 (lt_of_le_of_lt z1 t2)
    obtain ⟨q, hq⟩ : ∃ q : ℕ, (q : ℤ) = z + 127 := ⟨(z + 127).toNat, by omega⟩
    have hf : field1 (threshold1 a) = BitVec.ofNat 32 q := by
      refine field_at (threshold1 a) ⟨q, by omega⟩ fun s hs => ?_
      show a * _ < scaleOf s ↔ q < s.toNat
      rw [et]
      rcases Nat.lt_or_ge s.toNat 255 with h' | h'
      · rw [scaleOf_eq s hs (by omega), EReal.coe_lt_coe_iff, ← not_le]
        unfold twoPow
        rw [zpow_le_iff z _ t z1 z2]
        omega
      · rw [show s = 255#8 from BitVec.eq_of_toNat_eq (by have := s.isLt; show s.toNat = 255; omega), scaleOf_last]
        exact ⟨fun _ => by show q < 255; omega, fun _ => EReal.coe_lt_top t⟩
    have hc : count (a * Ideal.ofBits .f32 0x3B124925#32) = BitVec.ofNat 32 q := by
      refine count_at _ q (by omega) fun j => ?_
      rw [et, EReal.coe_le_coe_iff, zpow_le_iff z _ t z1 z2]
      omega
    have hs : (BitVec.ofNat 8 (q + 1)).toNat = q + 1 := by rw [BitVec.toNat_ofNat]; omega
    obtain ⟨w1, w2⟩ := last_words (BitVec.ofNat 8 (q + 1)) (by omega) (by omega)
    obtain ⟨w3, w4, w5⟩ := w2 (by omega)
    have ew : (BitVec.ofNat 8 (q + 1)).setWidth 32 - 1#32 = BitVec.ofNat 32 q := by
      apply BitVec.eq_of_toNat_eq
      simp only [BitVec.toNat_sub, BitVec.toNat_setWidth, BitVec.toNat_ofNat]
      omega
    rw [ew] at w3 w4 w5
    have hn : ¬ Ideal.cmp .oeq a (Ideal.ofBits .f32 0x00000000#32) = 1#1 := fun h => h0 ((cmp_oeq _ _).1 h)
    refine ⟨BitVec.ofNat 8 (q + 1), by omega, by omega, ?_, ?_⟩
    · unfold scaleExp
      rw [if_neg hn, hf, w3, if_neg (by decide), w4, w1]
    · unfold plainExp
      rw [if_neg hn, hc, w5]

/-! ## What follows from the code -/

theorem inv_words : ∀ s : BitVec 8, 127#32 - (s.setWidth 32 - 127#32) = (254#8 - s).setWidth 32 ∨ 255 ≤ s.toNat := by
  decide +kernel

theorem scale_words : ∀ s : BitVec 8, 2130706432#32 - IntOp.shli .vector ((254#8 - s).setWidth 32) 23#32 = s.setWidth 32 <<< 23#32
    ∨ 255 ≤ s.toNat := by
  decide +kernel

theorem code_words : ∀ s : BitVec 8, (s.setWidth 32 - 127#32 + 127#32).toInt = (s.toNat : ℤ)
    ∧ IntOp.addi (s.setWidth 32 - 127#32) 127#32 = s.setWidth 32 ∧ (s.setWidth 32).setWidth 8 = s := by
  decide +kernel

theorem other_code : ∀ s : BitVec 8, 1 ≤ s.toNat → s.toNat ≤ 253 → (254#8 - s).toNat = 254 - s.toNat := by
  decide +kernel

theorem neg_word : ∀ s : BitVec 8, s.toNat ≤ 253 → (IntOp.subi 0#32 (s.setWidth 32 - 127#32)).toInt = 127 - (s.toNat : ℤ) := by
  decide +kernel

variable (a : EReal) (s : BitVec 8) (h1 : 1 ≤ s.toNat) (h2 : s.toNat ≤ 253) (he : scaleExp a = s.setWidth 32 - 127#32)
include h1 h2 he

theorem invWord_of : invWord a = IntOp.shli .vector ((254#8 - s).setWidth 32) 23#32 := by
  unfold invWord
  rw [he, (inv_words s).resolve_right (by omega)]

theorem invScale_of : invScale a = (((2 : ℝ) ^ (127 - (s.toNat : ℤ)) : ℝ) : EReal) := by
  have e := other_code s h1 h2
  have h : scaleOf (254#8 - s) = ((twoPow (254#8 - s) : ℝ) : EReal) := scaleOf_eq _ (by omega) (by omega)
  unfold invScale
  rw [invWord_of a s h1 h2 he]
  refine (show _ = scaleOf (254#8 - s) from rfl).trans (h.trans ?_)
  unfold twoPow
  rw [e, show (((254 - s.toNat : ℕ) : ℤ) - 127) = 127 - (s.toNat : ℤ) by omega]

theorem scale_of : scale a = ((twoPow s : ℝ) : EReal) := by
  unfold scale
  rw [invWord_of a s h1 h2 he, (scale_words s).resolve_right (by omega)]
  exact scaleOf_eq s h1 (by omega)

theorem scaleCode_of : scaleCode a = s := by
  unfold scaleCode codeOf
  rw [he, (code_words s).1]
  unfold Ideal.fptosi
  rw [Ideal.toIntClamped_coe, if_pos (by positivity)]
  simp only [Int.cast_natCast, Int.floor_natCast]
  rw [show (max (-((2 ^ (32 - 1) : ℕ) : ℤ)) (min (((2 ^ (32 - 1) : ℕ) : ℤ) - 1) (s.toNat : ℤ))) = (s.toNat : ℤ) by norm_num; omega]
  apply BitVec.eq_of_toNat_eq
  simp only [BitVec.toNat_setWidth, BitVec.toNat_ofInt]
  omega

end Cert.Exponent

end
-- ==== Proof.Plain.lean ====
/-
  THE QUANTISATION AS PLAIN FORMULAS: the reference's operations before its call, as functions of the activations —
  the groups' greatest magnitudes (`greatests`), the exponents (`exponents`), the clipped values (`clipped`) and the
  scale bytes (`scaleBytes`) — and each of them at an index, on the extended reals.
-/
module

public import proofs.«01_k».proof.Proof.Gen.ReferenceIdeal
public import proofs.«01_k».proof.Proof.Exponent
public import Idealize.ShloMosaic.Lib.Pointwise.Tactic
public import Idealize.ShloMosaic.Lib.Pipeline.Value

@[expose] public section

noncomputable section

namespace Cert.ReferenceIdeal.Plain

open Cert.ReferenceIdeal Cert.ReferenceIdeal.Gen Idealize.ShloMosaic Cert.KernelIdeal.Quantise Cert.Exponent

section Stages

variable {F : FTy → Type} [FloatOps F]

/-- The activations, in groups of 32. -/
def groups (x : FVec F S1x4096x5120 .bf16) : FVec F S4096x160x32 .f32 :=
  shapeCast S4096x160x32 (extf .f32 x bitsLt_bf16_f32) shapeCasts_S1x4096x5120_S4096x160x32

/-- The greatest magnitude of each group. -/
def greatests (x : FVec F S1x4096x5120 .bf16) : FVec F S4096x160 .f32 :=
  Host.reduce FloatOps.maximumf (Host.absf (groups x)) (constant S_ .f32 0xFF800000#32) reducesTo_S4096x160x32_S4096x160_d2 h_S_

/-- The powers of two from `2 ^ (-126)` to `2 ^ 126`. -/
def powers : FVec F S253 .f32 :=
  Host.powf (broadcastInDim S253 ![] bcast_S_S253 (constant S_ .f32 0x40000000#32))
    (sitofp .f32 (addi (broadcastInDim S253 ![] bcast_S_S253 (constantI S_ 32 4294967170#32)) (iotaInDim S253 32 0)))

/-- Which of the powers each value reaches, as words. -/
def reached (t : FVec F S4096x160 .f32) : IVec S4096x160x253 32 :=
  extui 32 (cmpf .oge
    (broadcastInDim S4096x160x253 ![0, 1, 2] bcast_S4096x160x1_S4096x160x253_0_1_2
      (broadcastInDim S4096x160x1 ![0, 1] bcast_S4096x160_S4096x160x1_0_1 t))
    (broadcastInDim S4096x160x253 ![0, 1, 2] bcast_S1x1x253_S4096x160x253_0_1_2
      (broadcastInDim S1x1x253 ![2] bcast_S253_S1x1x253_2 (powers (F := F))))) natLt_1_32

/-- How many of the powers each value reaches. -/
def counts (t : FVec F S4096x160 .f32) : IVec S4096x160 32 :=
  Host.reduce IntOp.addi (reached t) (constantI S_ 32 0#32) reducesTo_S4096x160x253_S4096x160_d2 h_S_

/-- The exponents of the groups' scales. -/
def exponents (a : FVec F S4096x160 .f32) : IVec S4096x160 32 :=
  select (cmpf .oeq a (broadcastInDim S4096x160 ![] bcast_S_S4096x160 (constant S_ .f32 0x00000000#32)))
    (broadcastInDim S4096x160 ![] bcast_S_S4096x160 (id (constantI S_ 32 0#32)))
    (addi (broadcastInDim S4096x160 ![] bcast_S_S4096x160 (constantI S_ 32 4294967170#32))
      (counts (mulf a (broadcastInDim S4096x160 ![] bcast_S_S4096x160 (constant S_ .f32 0x3B124925#32)))))

/-- Two to the opposite exponents. -/
def inverses (e : IVec S4096x160 32) : FVec F S4096x160 .f32 :=
  Host.powf (broadcastInDim S4096x160 ![] bcast_S_S4096x160 (constant S_ .f32 0x40000000#32)) (sitofp .f32 (negi e))

/-- The activations times two to the opposite exponents, clipped, as one matrix. -/
def clipped (x : FVec F S1x4096x5120 .bf16) (e : IVec S4096x160 32) : FVec F S4096x5120 .f32 :=
  shapeCast S4096x5120
    (minimumf (broadcastInDim S4096x160x32 ![] bcast_S_S4096x160x32 (id (constant S_ .f32 0x43E00000#32)))
      (maximumf (broadcastInDim S4096x160x32 ![] bcast_S_S4096x160x32 (id (constant S_ .f32 0xC3E00000#32)))
        (mulf (groups x)
          (broadcastInDim S4096x160x32 ![0, 1, 2] bcast_S4096x160x1_S4096x160x32_0_1_2
            (broadcastInDim S4096x160x1 ![0, 1] bcast_S4096x160_S4096x160x1_0_1 (inverses e))))))
    shapeCasts_S4096x160x32_S4096x5120

/-- The scale bytes. -/
def scaleBytes (e : IVec S4096x160 32) : IVec S4096x160 8 :=
  trunci 8 (addi e (broadcastInDim S4096x160 ![] bcast_S_S4096x160 (constantI S_ 32 127#32))) natLt_8_32

end Stages

/-! ## At an index -/

theorem groups_apply (x : FVec Ideal S1x4096x5120 .bf16) (r : Fin 4096) (g : Fin 160) (p : Fin 32) :
    (groups x (ix3 (n0 := 4096) (n1 := 160) (n2 := 32) r g p) : EReal)
      = x (ix3 (n0 := 1) (n1 := 4096) (n2 := 5120) 0 r ⟨32 * g.val + p.val, by omega⟩) := by
  unfold groups
  refine shapeCast_apply (extf .f32 x bitsLt_bf16_f32) shapeCasts_S1x4096x5120_S4096x160x32 _
    (ix3 (n0 := 1) (n1 := 4096) (n2 := 5120) 0 r ⟨32 * g.val + p.val, by omega⟩) ?_
  rewrite [Shape.rowMajor_val_three, Shape.rowMajor_val_three]
  show (0 * 4096 + r.val) * 5120 + (32 * g.val + p.val) = (r.val * 160 + g.val) * 32 + p.val
  omega

/-- The f32 pattern of minus infinity. -/
theorem negInf : (FloatOps.ofBits (F := Ideal) .f32 0xFF800000#32 : EReal) = ⊥ := by
  show Ideal.ieee 8 23 0xFF800000#32 = ⊥
  unfold Ideal.ieee
  have hs : ((0xFF800000#32 : BitVec 32).extractLsb' 31 1 == 1#1) = true := rfl
  have he : ((0xFF800000#32 : BitVec 32).extractLsb' 23 8).toNat = 255 := rfl
  have hf : ((0xFF800000#32 : BitVec 32).extractLsb' 0 23).toNat = 0 := rfl
  simp [hs, he, hf]

theorem greatests_apply (x : FVec Ideal S1x4096x5120 .bf16) (r : Fin 4096) (g : Fin 160) :
    (greatests x (ix2 (n0 := 4096) (n1 := 160) r g) : EReal)
      = greatest fun p => x (ix3 (n0 := 1) (n1 := 4096) (n2 := 5120) 0 r ⟨32 * g.val + p.val, by omega⟩) := by
  unfold greatests
  refine (Host.reduce_eq_fold _ _ _ _ _ _).trans ?_
  refine (Shape.ReducesTo.fold_fiber_r3_a2 _ _ _ _ _).trans ?_
  show Finset.univ.fold max (FloatOps.ofBits (F := Ideal) .f32 0xFF800000#32 : EReal)
    (fun p : Fin 32 => Host.absf (groups x) (ix3 (n0 := 4096) (n1 := 160) (n2 := 32) r g p)) = _
  rw [negInf]
  unfold greatest Finset.sup
  refine Finset.fold_congr fun p _ => ?_
  show max (groups x _ : EReal) (-(groups x _)) = _
  rw [groups_apply]

theorem powers_apply (j : Fin 253) : (powers (F := Ideal) (ix1 (n0 := 253) j) : EReal) = power (BitVec.ofNat 32 j.val) := rfl

theorem reached_apply (t : FVec Ideal S4096x160 .f32) (r : Fin 4096) (g : Fin 160) (j : Fin 253) :
    reached t (ix3 (n0 := 4096) (n1 := 160) (n2 := 253) r g j)
      = (Ideal.cmp .oge (t (ix2 (n0 := 4096) (n1 := 160) r g)) (power (BitVec.ofNat 32 j.val))).setWidth 32 := by
  unfold reached
  refine congrArg (fun b : BitVec 1 => b.setWidth 32) (congrArg₂ (fun a b : EReal => Ideal.cmp .oge a b) ?_ ?_)
  · refine (broadcastInDim_apply _ bcast_S4096x160x1_S4096x160x253_0_1_2 _ _ (ix3 (n0 := 4096) (n1 := 160) (n2 := 1) r g 0) ?_).trans
      (broadcastInDim_apply _ bcast_S4096x160_S4096x160x1_0_1 t _ (ix2 (n0 := 4096) (n1 := 160) r g) ?_)
    · intro a
      match a with
      | ⟨0, _⟩ => exact (if_neg (by decide +revert)).symm
      | ⟨1, _⟩ => exact (if_neg (by decide +revert)).symm
      | ⟨2, _⟩ => exact (if_pos rfl).symm
    · intro a
      match a with
      | ⟨0, _⟩ => exact (if_neg (by decide +revert)).symm
      | ⟨1, _⟩ => exact (if_neg (by decide +revert)).symm
  · refine (broadcastInDim_apply _ bcast_S1x1x253_S4096x160x253_0_1_2 _ _ (ix3 (n0 := 1) (n1 := 1) (n2 := 253) 0 0 j) ?_).trans
      ((broadcastInDim_apply _ bcast_S253_S1x1x253_2 powers _ (ix1 (n0 := 253) j) ?_).trans (powers_apply j))
    · intro a
      match a with
      | ⟨0, _⟩ => exact (if_pos rfl).symm
      | ⟨1, _⟩ => exact (if_pos rfl).symm
      | ⟨2, _⟩ => exact (if_neg (by decide +revert)).symm
    · intro a
      match a with
      | ⟨0, _⟩ => exact (if_neg (by decide +revert)).symm

theorem counts_apply (t : FVec Ideal S4096x160 .f32) (r : Fin 4096) (g : Fin 160) :
    counts t (ix2 (n0 := 4096) (n1 := 160) r g) = Cert.Exponent.count (t (ix2 (n0 := 4096) (n1 := 160) r g)) := by
  unfold counts
  refine (Host.reduce_eq_fold _ _ _ _ _ _).trans ?_
  refine (Shape.ReducesTo.fold_fiber_r3_a2 _ _ _ _ _).trans ?_
  unfold Cert.Exponent.count
  exact Finset.fold_congr fun j _ => reached_apply t r g j

theorem exponents_apply (a : FVec Ideal S4096x160 .f32) (r : Fin 4096) (g : Fin 160) :
    exponents a (ix2 (n0 := 4096) (n1 := 160) r g) = plainExp (a (ix2 (n0 := 4096) (n1 := 160) r g)) := by
  unfold exponents plainExp
  refine (congrArg (fun w : BitVec 32 => if Ideal.cmp .oeq (a (ix2 (n0 := 4096) (n1 := 160) r g)) (Ideal.ofBits .f32 0x00000000#32) = 1#1
    then 0#32 else IntOp.addi 4294967170#32 w) (counts_apply _ r g))

theorem inverses_apply (e : IVec S4096x160 32) (i : S4096x160.Idx) :
    (inverses (F := Ideal) e i : EReal) = (((2 : ℝ) ^ ((IntOp.subi 0#32 (e i)).toInt) : ℝ) : EReal) :=
  pow_word (IntOp.subi 0#32 (e i))

theorem scaleBytes_apply (e : IVec S4096x160 32) (i : S4096x160.Idx) :
    scaleBytes e i = (IntOp.addi (e i) 127#32).setWidth 8 := rfl

theorem clipped_apply (x : FVec Ideal S1x4096x5120 .bf16) (e : IVec S4096x160 32) (r : Fin 4096) (k : Fin 5120) :
    (clipped x e (ix2 (n0 := 4096) (n1 := 5120) r k) : EReal)
      = clip ((show EReal from x (ix3 (n0 := 1) (n1 := 4096) (n2 := 5120) 0 r k))
          * (show EReal from inverses (F := Ideal) e (ix2 (n0 := 4096) (n1 := 160) r (groupOf k)))) := by
  unfold clipped
  refine (shapeCast_apply _ shapeCasts_S4096x160x32_S4096x5120 _
    (ix3 (n0 := 4096) (n1 := 160) (n2 := 32) r (groupOf k) ⟨k.val % 32, by omega⟩) ?_).trans ?_
  · rewrite [Shape.rowMajor_val_three, Shape.rowMajor_val_two]
    show (r.val * 160 + k.val / 32) * 32 + k.val % 32 = r.val * 5120 + k.val
    omega
  · refine congrArg clip (congrArg₂ (fun a b : EReal => a * b) ((groups_apply x r (groupOf k) _).trans ?_) ?_)
    · refine congrArg (fun q => x (ix3 (n0 := 1) (n1 := 4096) (n2 := 5120) 0 r q)) (Fin.ext ?_)
      show 32 * (k.val / 32) + k.val % 32 = k.val
      omega
    · refine (broadcastInDim_apply _ bcast_S4096x160x1_S4096x160x32_0_1_2 _ _ (ix3 (n0 := 4096) (n1 := 160) (n2 := 1) r (groupOf k) 0) ?_).trans
        (broadcastInDim_apply _ bcast_S4096x160_S4096x160x1_0_1 (inverses e) _ (ix2 (n0 := 4096) (n1 := 160) r (groupOf k)) ?_)
      · intro a
        match a with
        | ⟨0, _⟩ => exact (if_neg (by decide +revert)).symm
        | ⟨1, _⟩ => exact (if_neg (by decide +revert)).symm
        | ⟨2, _⟩ => exact (if_pos rfl).symm
      · intro a
        match a with
        | ⟨0, _⟩ => exact (if_neg (by decide +revert)).symm
        | ⟨1, _⟩ => exact (if_neg (by decide +revert)).symm

end Cert.ReferenceIdeal.Plain

end
-- ==== Proof.Reference.lean ====
/-
  WHAT THE REFERENCE COMPUTES, on the extended reals. Its one call receives the clipped values and the weights' codes and
  returns both as they are (`left2`, `left3`, `left4`). At `(r, n)` the product is the sum over the 160 groups of the
  group's own product of the two times the two scales, plus the bias of column `n` (`product_apply`). The run ends with
  the three results at functions of the arguments (`run`).
-/
module

public import proofs.«01_k».proof.Proof.Gen.ReferenceIdeal.Read
public import proofs.«01_k».proof.Proof.Plain
public import Idealize.ShloMosaic.Lib.Pipeline.ValueKit

@[expose] public section

set_option maxRecDepth 16384

noncomputable section

namespace Cert.ReferenceIdeal.Sum

open Cert.ReferenceIdeal Cert.ReferenceIdeal.Gen Cert.ReferenceIdeal.Value Cert.ReferenceIdeal.Read Cert.ReferenceIdeal.Plain
open Idealize.ShloMosaic Idealize.ShloMosaic.TcCoe Idealize.ShloMosaic.StableHlo Idealize.SL.Sem Cert.Scale

variable (m : (ℓ : Loc nD τ sig) → Buf (Elt Ideal) ℓ) (ρ : Dev nD → PrngReg)

theorem zeros2 : (![0, 0] : Fin 2 → ℕ) = fun _ => 0 := funext fun a => by fin_cases a <;> rfl

/-- Each window's block index at the one grid point is zero on both axes. -/
theorem index0 : ∀ t : Fin cfg0.N,
    (win0_0.index t (0 : Fin 2) = 0 ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

theorem emb0 (t : Fin cfg0.N) (j : S4096x5120.Idx) : ((cfg0.win 0).blk t).view.emb j = j := by
  obtain ⟨⟨e0, e1⟩, -⟩ := index0 t
  funext a; apply Fin.ext
  match a with
  | ⟨0, _⟩ => show win0_0.index t (0 : Fin 2) * 4096 + 1 * (j 0).val = (j 0).val; omega
  | ⟨1, _⟩ => show win0_0.index t (1 : Fin 2) * 5120 + 1 * (j 1).val = (j 1).val; omega

theorem emb1 (t : Fin cfg0.N) (j : S5120x5120.Idx) : ((cfg0.win 1).blk t).view.emb j = j := by
  obtain ⟨-, ⟨e0, e1⟩, -⟩ := index0 t
  funext a; apply Fin.ext
  match a with
  | ⟨0, _⟩ => show win0_1.index t (0 : Fin 2) * 5120 + 1 * (j 0).val = (j 0).val; omega
  | ⟨1, _⟩ => show win0_1.index t (1 : Fin 2) * 5120 + 1 * (j 1).val = (j 1).val; omega

theorem emb2 (t : Fin cfg0.N) (j : S4096x5120.Idx) : ((cfg0.win 2).blk t).view.emb j = j := by
  obtain ⟨-, -, ⟨e0, e1⟩, -⟩ := index0 t
  funext a; apply Fin.ext
  match a with
  | ⟨0, _⟩ => show win0_2.index t (0 : Fin 2) * 4096 + 1 * (j 0).val = (j 0).val; omega
  | ⟨1, _⟩ => show win0_2.index t (1 : Fin 2) * 5120 + 1 * (j 1).val = (j 1).val; omega

theorem emb3 (t : Fin cfg0.N) (j : S4096x5120.Idx) : ((cfg0.win 3).blk t).view.emb j = j := by
  obtain ⟨-, -, -, ⟨e0, e1⟩, -⟩ := index0 t
  funext a; apply Fin.ext
  match a with
  | ⟨0, _⟩ => show win0_3.index t (0 : Fin 2) * 4096 + 1 * (j 0).val = (j 0).val; omega
  | ⟨1, _⟩ => show win0_3.index t (1 : Fin 2) * 5120 + 1 * (j 1).val = (j 1).val; omega

theorem emb4 (t : Fin cfg0.N) (j : S5120x5120.Idx) : ((cfg0.win 4).blk t).view.emb j = j := by
  obtain ⟨-, -, -, -, e0, e1⟩ := index0 t
  funext a; apply Fin.ext
  match a with
  | ⟨0, _⟩ => show win0_4.index t (0 : Fin 2) * 5120 + 1 * (j 0).val = (j 0).val; omega
  | ⟨1, _⟩ => show win0_4.index t (1 : Fin 2) * 5120 + 1 * (j 1).val = (j 1).val; omega

/-! ### Result 0 of the call: the codes -/

theorem out2_eq (x0 : Vec Ideal S4096x5120 .f32) (x1 : Vec Ideal S5120x5120 .fp8e4m3) :
    (out0_2 (F := Ideal) x0 x1 : S4096x5120.Idx → EReal) = x0 := by
  unfold out0_2
  rw [View.canon_unit_zero zeros2, View.ld_unit_zero zeros2]
  unfold k0_pay1
  exact shapeCast_self _ _

theorem flushed2_eq (c : Dev nD) (t : Fin cfg0.N) :
    (dats m 0 c).flushed 2 t = ((cfg0.win 2).blk t).view.read (Elt Ideal) (show Vec Ideal S4096x5120 .fp8e4m3 from V m c main_v34) := by
  unfold Pipeline.Dat.flushed
  rw [after0_2]
  funext j
  show (out0_2 (F := Ideal) (iblk m c 0 t) (iblk m c 1 t) : S4096x5120.Idx → EReal) j
    = (V m c main_v34 : S4096x5120.Idx → EReal) (((cfg0.win 2).blk t).view.emb j)
  rw [out2_eq, emb2]
  show (V m c main_v34 : S4096x5120.Idx → EReal) (((cfg0.win 0).blk t).view.emb j) = _
  rw [emb0]

theorem covered2 (i : S4096x5120.Idx) : ∃ t : Fin cfg0.N, (cfg0.win 2).flush t = true ∧ i ∈ ((cfg0.win 2).blk t).view.set :=
  ⟨(⟨0, by decide⟩ : Fin cfg0.N), flush0_2 _, by
    have h := ((cfg0.win 2).blk (⟨0, by decide⟩ : Fin cfg0.N)).view.emb_mem_set i; rwa [emb2] at h⟩

theorem left2 (c : Dev nD) : (reg_main_v38_0 m c : S4096x5120.Idx → EReal) = V m c main_v34 :=
  (dats m 0 c).arrAt_eq_of_cover 2 (show Vec Ideal S4096x5120 .fp8e4m3 from V m c main_v34) (fun t _ => flushed2_eq m c t) covered2

/-! ### Result 1 of the call: the clipped values again -/

theorem out3_eq (x0 : Vec Ideal S4096x5120 .f32) (x1 : Vec Ideal S5120x5120 .fp8e4m3) :
    (out0_3 (F := Ideal) x0 x1 : S4096x5120.Idx → EReal) = x0 := by
  unfold out0_3
  rw [View.canon_unit_zero zeros2, View.ld_unit_zero zeros2]
  unfold k0_pay2 k0_pay1
  exact shapeCast_self _ _

theorem flushed3_eq (c : Dev nD) (t : Fin cfg0.N) :
    (dats m 0 c).flushed 3 t = ((cfg0.win 3).blk t).view.read (Elt Ideal) (show Vec Ideal S4096x5120 .f32 from V m c main_v34) := by
  unfold Pipeline.Dat.flushed
  rw [after0_3]
  funext j
  show (out0_3 (F := Ideal) (iblk m c 0 t) (iblk m c 1 t) : S4096x5120.Idx → EReal) j
    = (V m c main_v34 : S4096x5120.Idx → EReal) (((cfg0.win 3).blk t).view.emb j)
  rw [out3_eq, emb3]
  show (V m c main_v34 : S4096x5120.Idx → EReal) (((cfg0.win 0).blk t).view.emb j) = _
  rw [emb0]

theorem covered3 (i : S4096x5120.Idx) : ∃ t : Fin cfg0.N, (cfg0.win 3).flush t = true ∧ i ∈ ((cfg0.win 3).blk t).view.set :=
  ⟨(⟨0, by decide⟩ : Fin cfg0.N), flush0_3 _, by
    have h := ((cfg0.win 3).blk (⟨0, by decide⟩ : Fin cfg0.N)).view.emb_mem_set i; rwa [emb3] at h⟩

theorem left3 (c : Dev nD) : (reg_main_v38_1 m c : S4096x5120.Idx → EReal) = V m c main_v34 :=
  (dats m 0 c).arrAt_eq_of_cover 3 (show Vec Ideal S4096x5120 .f32 from V m c main_v34) (fun t _ => flushed3_eq m c t) covered3

/-! ### Result 2 of the call: the weights' codes -/

theorem out4_eq (x0 : Vec Ideal S4096x5120 .f32) (x1 : Vec Ideal S5120x5120 .fp8e4m3) :
    (out0_4 (F := Ideal) x0 x1 : S5120x5120.Idx → EReal) = x1 := by
  unfold out0_4
  rw [View.canon_unit_zero zeros2, View.ld_unit_zero zeros2]
  unfold k0_pay3
  rfl

theorem flushed4_eq (c : Dev nD) (t : Fin cfg0.N) :
    (dats m 0 c).flushed 4 t = ((cfg0.win 4).blk t).view.read (Elt Ideal) (show Vec Ideal S5120x5120 .f32 from V m c main_arg1) := by
  unfold Pipeline.Dat.flushed
  rw [after0_4]
  funext j
  show (out0_4 (F := Ideal) (iblk m c 0 t) (iblk m c 1 t) : S5120x5120.Idx → EReal) j
    = (V m c main_arg1 : S5120x5120.Idx → EReal) (((cfg0.win 4).blk t).view.emb j)
  rw [out4_eq, emb4]
  show (V m c main_arg1 : S5120x5120.Idx → EReal) (((cfg0.win 1).blk t).view.emb j) = _
  rw [emb1]

theorem covered4 (i : S5120x5120.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

theorem left4 (c : Dev nD) : (reg_main_v38_2 m c : S5120x5120.Idx → EReal) = V m c main_arg1 :=
  (dats m 0 c).arrAt_eq_of_cover 4 (show Vec Ideal S5120x5120 .f32 from V m c main_arg1) (fun t _ => flushed4_eq m c t) covered4

/-! ### The product -/

/-- The scale the reference takes for a code of the activations. -/
theorem scale_apply_x (e : Vec Ideal S4096x160 .i8) (i : S4096x160.Idx) :
    (val_main_v44 (F := Ideal) e i : EReal) = ((twoPow (e i) : ℝ) : EReal) := by
  rw [val_main_v44_apply, val_main_v43_apply, val_main_cst_11_apply, val_main_v42_apply, val_main_v41_apply, val_main_v40_apply,
    val_main_c_10_apply, val_main_v39_apply]
  exact powScale_eq (e i)

/-- The scale the reference takes for a code of the weights. -/
theorem scale_apply_w (ws : Vec Ideal S5120x160 .i8) (i : S5120x160.Idx) :
    (val_main_v50 (F := Ideal) ws i : EReal) = ((twoPow (ws i) : ℝ) : EReal) := by
  rw [val_main_v50_apply, val_main_v49_apply, val_main_cst_13_apply, val_main_v48_apply, val_main_v47_apply, val_main_v46_apply,
    val_main_c_12_apply, val_main_v45_apply]
  exact powScale_eq (ws i)

/-- One group's product. -/
theorem group_apply (x : Vec Ideal S4096x5120 .f32) (wc : Vec Ideal S5120x5120 .f32) (i : S4096x5120.Idx) (g : Fin 160) :
    (val_main_v53 (F := Ideal) x wc (idx_main_v62 i g) : EReal)
      = ∑ l : Fin 32, (show EReal from x (ix2 (n0 := 4096) (n1 := 5120) (i 0) ⟨g.val * 32 + l.val, by omega⟩))
          * (show EReal from wc (ix2 (n0 := 5120) (n1 := 5120) (i 1) ⟨g.val * 32 + l.val, by omega⟩)) := by
  rw [val_main_v53_apply]
  refine Finset.sum_congr rfl fun l _ => ?_
  rw [val_main_v51_apply, val_main_v52_apply]
  have h0 : ((i 0 : Fin 4096) : ℕ) < 4096 := (i 0).isLt
  have h1 : ((i 1 : Fin 5120) : ℕ) < 5120 := (i 1).isLt
  have hg : (g : ℕ) < 160 := g.isLt
  have hl : (l : ℕ) < 32 := l.isLt
  refine congrArg₂ (fun a b : EReal => a * b) (congrArg x (funext fun a => Fin.ext ?_)) (congrArg wc (funext fun a => Fin.ext ?_))
  · match a with
    | ⟨0, _⟩ => show ((((i 0 : Fin 4096) : ℕ) * 160 + g.val) * 32 + l.val) / 5120 = ((i 0 : Fin 4096) : ℕ); omega
    | ⟨1, _⟩ => show ((((i 0 : Fin 4096) : ℕ) * 160 + g.val) * 32 + l.val) % 5120 = g.val * 32 + l.val; omega
  · match a with
    | ⟨0, _⟩ => show ((((i 1 : Fin 5120) : ℕ) * 160 + g.val) * 32 + l.val) / 5120 = ((i 1 : Fin 5120) : ℕ); omega
    | ⟨1, _⟩ => show ((((i 1 : Fin 5120) : ℕ) * 160 + g.val) * 32 + l.val) % 5120 = g.val * 32 + l.val; omega

/-- The reference's product at an index: groups' products times both scales, summed, plus the bias. -/
theorem product_apply (ws : Vec Ideal S5120x160 .i8) (b : Vec Ideal S5120 .f32) (x : Vec Ideal S4096x5120 .f32)
    (wc : Vec Ideal S5120x5120 .f32) (e : Vec Ideal S4096x160 .i8) (i : S4096x5120.Idx) :
    (val_main_v66 (F := Ideal) ws b x wc e i : EReal)
      = (∑ g : Fin 160, (∑ l : Fin 32, (show EReal from x (ix2 (n0 := 4096) (n1 := 5120) (i 0) ⟨g.val * 32 + l.val, by omega⟩))
            * (show EReal from wc (ix2 (n0 := 5120) (n1 := 5120) (i 1) ⟨g.val * 32 + l.val, by omega⟩)))
          * ((twoPow (e (ix2 (n0 := 4096) (n1 := 160) (i 0) g)) : ℝ) : EReal)
          * ((twoPow (ws (ix2 (n0 := 5120) (n1 := 160) (i 1) g)) : ℝ) : EReal))
        + (show EReal from b (at1 (i 1))) := by
  rw [val_main_v66_apply, val_main_v65_apply, val_main_v62_apply, val_main_v64_apply, val_main_v63_apply, val_main_cst_14_apply]
  refine congrArg₂ (fun a b : EReal => a + b) ?_ (congrArg b (funext fun a => by match a with | ⟨0, _⟩ => rfl))
  rw [show (FloatOps.ofBits (F := Ideal) .f32 0x00000000#32 : EReal) = 0 from Ideal.ofBits_zero_f32, zero_add]
  refine Finset.sum_congr rfl fun g _ => ?_
  rw [val_main_v61_apply, val_main_v57_apply, val_main_v56_apply, val_main_v55_apply, val_main_v54_apply, val_main_v60_apply,
    val_main_v59_apply, val_main_v58_apply]
  refine congrArg₂ (fun a b : EReal => a * b) (congrArg₂ (fun a b : EReal => a * b) (group_apply x wc i g)
    ((scale_apply_x e _).trans ?_)) ((scale_apply_w ws _).trans ?_)
  · refine congrArg (fun z => ((twoPow (e z) : ℝ) : EReal)) (funext fun a => ?_)
    match a with
    | ⟨0, _⟩ => rfl
    | ⟨1, _⟩ => rfl
  · refine congrArg (fun z => ((twoPow (ws z) : ℝ) : EReal)) (funext fun a => ?_)
    match a with
    | ⟨0, _⟩ => rfl
    | ⟨1, _⟩ => rfl

/-! ### The run -/

/-- The exponents of the activations' groups. -/
def expOf (x : Vec Ideal S1x4096x5120 .bf16) : IVec S4096x160 32 := exponents (F := Ideal) (greatests (F := Ideal) x)

set_option maxRecDepth 8192 in
set_option maxHeartbeats 2000000 in
/-- What the call receives: the clipped values. -/
theorem entry (c : Dev nD) : V m c main_v34
    = clipped (F := Ideal) (m ((c.tc : Thread nD τ).loc main_arg0)) (expOf (m ((c.tc : Thread nD τ).loc main_arg0))) := by
  show Gen.V0 m c (Proc.devRef .tc main_v34) = _
  simp only [Gen.V0, Gen.hostOps0, Gen.hostOps0_1, Gen.hostOps0_2, Gen.hostOps0_3, Gen.hostOps0_4, TRef.binary, TRef.ternary, TRef.unary,
    TRef.toBuf, TRef.ofBuf, cast_eq, List.flatten_cons, List.flatten_nil, List.append_nil, List.cons_append, List.nil_append]
  after_results_simp <;> rfl

/-- The three results as functions of the arguments. -/
def resultY (x : Vec Ideal S1x4096x5120 .bf16) (wc : Vec Ideal S5120x5120 .fp8e4m3) (ws : Vec Ideal S5120x160 .i8)
    (b : Vec Ideal S5120 .f32) : Vec Ideal S1x4096x5120 .bf16 :=
  val_main_v67 (F := Ideal) ws b (clipped (F := Ideal) x (expOf x)) (show Vec Ideal S5120x5120 .f32 from wc) (scaleBytes (expOf x))
def resultCodes (x : Vec Ideal S1x4096x5120 .bf16) : Vec Ideal S1x4096x5120 .fp8e4m3 :=
  val_main_v68 (F := Ideal) (show Vec Ideal S4096x5120 .fp8e4m3 from clipped (F := Ideal) x (expOf x))
def resultScales (x : Vec Ideal S1x4096x5120 .bf16) : Vec Ideal S1x4096x160 .i8 :=
  val_main_v69 (F := Ideal) (scaleBytes (expOf x))

/-- The run: the three result arrays at their functions of the arguments, the arguments as launched. -/
theorem run : θ_run defs (onTc (τ := τ) (main (F := Ideal))) ⟨m, fun _ => 0, ρ⟩ fun r => ∀ c : Dev nD,
      r.2.mem ((c.tc : Thread nD τ).loc main_v67)
        = resultY (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_v68) = resultCodes (m ((c.tc : Thread nD τ).loc main_arg0))
      ∧ r.2.mem ((c.tc : Thread nD τ).loc main_v69) = resultScales (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2.1, (h c).2.2.2⟩) (Value.run m ρ)
  · have e1 : reg_main_v38_1 m c = clipped (F := Ideal) (m ((c.tc : Thread nD τ).loc main_arg0)) (expOf (m ((c.tc : Thread nD τ).loc main_arg0))) :=
      (left3 m c).trans (entry m c)
    have e2 : (reg_main_v38_2 m c : Vec Ideal S5120x5120 .f32) = m ((c.tc : Thread nD τ).loc main_arg1) := (left4 m c).trans (V_main_arg1 m c)
    rw [e1, e2]
    rfl
  · have e0 : (reg_main_v38_0 m c : S4096x5120.Idx → EReal)
        = clipped (F := Ideal) (m ((c.tc : Thread nD τ).loc main_arg0)) (expOf (m ((c.tc : Thread nD τ).loc main_arg0))) := (left2 m c).trans (entry m c)
    exact congrArg (fun z : Vec Ideal S4096x5120 .fp8e4m3 => val_main_v68 (F := Ideal) z) e0

end Cert.ReferenceIdeal.Sum

end
-- ==== Proof.Equation.lean ====
/-
  THE EQUATION: where every group's greatest magnitude fits (`Fits`) and every scale code of the weights is from 1 to
  254, the kernel's three results are the reference's. A group's scale code is found two ways with one answer (module
  `Exponent`), so the codes and the scale codes agree. One sum over 5120 positions, both factors already multiplied by
  their groups' scales, is the sum over the 160 groups of the group's sum of 32 unscaled products times both scales; it
  needs no finiteness of the entries, for multiplication by a positive real distributes over sums of extended reals.
-/
module

public import proofs.«01_k».proof.Proof.Run
public import proofs.«01_k».proof.Proof.Reference
public import Mathlib.Data.EReal.Operations

@[expose] public section

noncomputable section

namespace Cert.Equation

open Idealize.ShloMosaic Cert.Scale Cert.Exponent Cert.KernelIdeal.Decode Cert.KernelIdeal.Quantise
open Cert.KernelIdeal.Value (flat productOf)
open Cert.ReferenceIdeal.Plain (greatests inverses clipped scaleBytes)
open Cert.ReferenceIdeal.Sum (expOf)

/-! ## The sums -/

/-- A positive real factor moves into a finite sum of extended reals. -/
theorem sum_mul_pos {n : ℕ} (f : Fin n → EReal) (s : ℝ) (hs : 0 < s) : (∑ l, f l) * (s : EReal) = ∑ l, f l * (s : EReal) := by
  induction n with
  | zero => simp
  | succ n ih =>
    rw [Fin.sum_univ_succ, Fin.sum_univ_succ, ← ih,
      EReal.right_distrib_of_nonneg_of_ne_top (EReal.coe_nonneg.2 hs.le) (EReal.coe_ne_top s)]

/-- A sum over 5120 positions is a sum over 160 groups of 32. -/
theorem sum_groups (f : Fin 5120 → EReal) :
    ∑ k, f k = ∑ g : Fin 160, ∑ l : Fin 32, f ⟨g.val * 32 + l.val, by omega⟩ := by
  rw [← Equiv.sum_comp (finProdFinEquiv (m := 160) (n := 32)) f, Fintype.sum_prod_type]
  refine Finset.sum_congr rfl fun g _ => Finset.sum_congr rfl fun l _ => congrArg f (Fin.ext ?_)
  show l.val + 32 * g.val = g.val * 32 + l.val
  omega

/-- The two ways of scaling give the same sum. -/
theorem scaled_sum (c w : Fin 5120 → EReal) (s t : Fin 160 → BitVec 8) :
    ∑ k : Fin 5120, (c k * ((twoPow (s (groupOf k)) : ℝ) : EReal)) * (w k * ((twoPow (t (groupOf k)) : ℝ) : EReal))
      = ∑ g : Fin 160, (∑ l : Fin 32, c ⟨g.val * 32 + l.val, by omega⟩ * w ⟨g.val * 32 + l.val, by omega⟩)
          * ((twoPow (s g) : ℝ) : EReal) * ((twoPow (t g) : ℝ) : EReal) := by
  rw [sum_groups]
  refine Finset.sum_congr rfl fun g _ => ?_
  rw [sum_mul_pos _ _ (twoPow_pos _), sum_mul_pos _ _ (twoPow_pos _)]
  refine Finset.sum_congr rfl fun l _ => ?_
  have eg : groupOf ⟨g.val * 32 + l.val, by omega⟩ = g := Fin.ext (by show (g.val * 32 + l.val) / 32 = g.val; omega)
  rw [eg, mul_mul_mul_comm, ← mul_assoc (c _ * w _)]

/-! ## The scale codes -/

theorem flat_apply (x : Vec Ideal Cert.KernelIdeal.S1x4096x5120 .bf16) (r : Fin 4096) (k : Fin 5120) :
    flat x (ix2 (n0 := 4096) (n1 := 5120) r k) = x (ix3 (n0 := 1) (n1 := 4096) (n2 := 5120) 0 r k) := by
  refine shapeCast_apply x _ _ (ix3 (n0 := 1) (n1 := 4096) (n2 := 5120) 0 r k) ?_
  rewrite [Shape.rowMajor_val_three, Shape.rowMajor_val_two]
  show (0 * 4096 + r.val) * 5120 + k.val = r.val * 5120 + k.val
  omega

/-- The greatest magnitudes are the same for the two programs. -/
theorem groupMax_eq (x : Vec Ideal Cert.KernelIdeal.S1x4096x5120 .bf16) (r : Fin 4096) (g : Fin 160) :
    groupMax (flat x) r g = greatests (F := Ideal) x (ix2 (n0 := 4096) (n1 := 160) r g) := by
  rw [Cert.ReferenceIdeal.Plain.greatests_apply]
  exact congrArg greatest (funext fun p => flat_apply x r _)

/-- Every group's greatest magnitude fits. -/
def AllFit (x : Vec Ideal Cert.KernelIdeal.S1x4096x5120 .bf16) : Prop :=
  ∀ (r : Fin 4096) (g : Fin 160), Fits (greatests (F := Ideal) x (ix2 (n0 := 4096) (n1 := 160) r g))

variable (x : Vec Ideal Cert.KernelIdeal.S1x4096x5120 .bf16) (hx : AllFit x)

include hx in
/-- One code for both programs, from which each takes its scale. -/
theorem code_at (r : Fin 4096) (g : Fin 160) : ∃ s : BitVec 8,
    scaleCode (groupMax (flat x) r g) = s ∧ scale (groupMax (flat x) r g) = ((twoPow s : ℝ) : EReal)
    ∧ invScale (groupMax (flat x) r g) = inverses (F := Ideal) (expOf x) (ix2 (n0 := 4096) (n1 := 160) r g)
    ∧ scaleBytes (expOf x) (ix2 (n0 := 4096) (n1 := 160) r g) = s := by
  obtain ⟨s, h1, h2, hk, hp⟩ := exponents_eq _ (hx r g)
  rw [← groupMax_eq] at hk
  have hr : expOf x (ix2 (n0 := 4096) (n1 := 160) r g) = s.setWidth 32 - 127#32 :=
    (Cert.ReferenceIdeal.Plain.exponents_apply _ r g).trans hp
  refine ⟨s, scaleCode_of _ s h1 h2 hk, scale_of _ s h1 h2 hk, ?_, ?_⟩
  · rw [invScale_of _ s h1 h2 hk, Cert.ReferenceIdeal.Plain.inverses_apply, hr, neg_word s h2]
  · rw [Cert.ReferenceIdeal.Plain.scaleBytes_apply, hr, (code_words s).2.1, (code_words s).2.2]

include hx in
theorem scales_eq : (scalesAll (flat x) : Cert.KernelIdeal.S4096x160.Idx → BitVec 8) = scaleBytes (expOf x) := by
  funext y
  obtain ⟨r, g, rfl⟩ : ∃ (r : Fin 4096) (g : Fin 160), y = ix2 (n0 := 4096) (n1 := 160) r g :=
    ⟨y 0, y 1, funext fun a => match a with | ⟨0, _⟩ => rfl | ⟨1, _⟩ => rfl⟩
  obtain ⟨s, h1, -, -, h4⟩ := code_at x hx r g
  exact (show scaleCode (groupMax (flat x) r g) = _ from h1).trans h4.symm

include hx in
/-- A clipped value, and its code. -/
theorem clip_eq (r : Fin 4096) (k : Fin 5120) :
    clip ((show EReal from flat x (ix2 (n0 := 4096) (n1 := 5120) r k)) * invScale (groupMax (flat x) r (groupOf k)))
      = clipped (F := Ideal) x (expOf x) (ix2 (n0 := 4096) (n1 := 5120) r k) := by
  obtain ⟨s, -, -, h3, -⟩ := code_at x hx r (groupOf k)
  rw [Cert.ReferenceIdeal.Plain.clipped_apply, h3, flat_apply]

include hx in
theorem codes_eq : (codesAll (flat x) : Cert.KernelIdeal.S4096x5120.Idx → EReal) = clipped (F := Ideal) x (expOf x) := by
  funext y
  obtain ⟨r, k, rfl⟩ : ∃ (r : Fin 4096) (k : Fin 5120), y = ix2 (n0 := 4096) (n1 := 5120) r k :=
    ⟨y 0, y 1, funext fun a => match a with | ⟨0, _⟩ => rfl | ⟨1, _⟩ => rfl⟩
  exact clip_eq x hx r k

include hx in
/-- A dequantised value: its code times two to its group's scale. -/
theorem deq_eq (r : Fin 4096) (k : Fin 5120) :
    (deqAll (flat x) (ix2 (n0 := 4096) (n1 := 5120) r k) : EReal)
      = (show EReal from clipped (F := Ideal) x (expOf x) (ix2 (n0 := 4096) (n1 := 5120) r k))
        * ((twoPow (scaleBytes (expOf x) (ix2 (n0 := 4096) (n1 := 160) r (groupOf k))) : ℝ) : EReal) := by
  obtain ⟨s, -, h2, -, h4⟩ := code_at x hx r (groupOf k)
  rw [h4, ← h2]
  exact congrArg (fun a : EReal => a * _) (clip_eq x hx r k)

/-! ## The product -/

variable (wc : Vec Ideal Cert.KernelIdeal.S5120x5120 .fp8e4m3) (ws : Vec Ideal Cert.KernelIdeal.S5120x160 .i8)
  (b : Vec Ideal Cert.KernelIdeal.S5120 .f32) (hs : ∀ i, 1 ≤ (ws i : BitVec 8).toNat ∧ (ws i : BitVec 8).toNat ≤ 254)

include hx hs in
theorem product_eq : (productOf (flat x) wc ws b : Cert.KernelIdeal.S4096x5120.Idx → EReal)
    = Cert.ReferenceIdeal.Read.val_main_v66 (F := Ideal) ws b (clipped (F := Ideal) x (expOf x))
        (show Vec Ideal Cert.ReferenceIdeal.S5120x5120 .f32 from wc) (scaleBytes (expOf x)) := by
  funext y
  obtain ⟨r, n, rfl⟩ : ∃ (r : Fin 4096) (n : Fin 5120), y = ix2 (n0 := 4096) (n1 := 5120) r n :=
    ⟨y 0, y 1, funext fun a => match a with | ⟨0, _⟩ => rfl | ⟨1, _⟩ => rfl⟩
  rw [Cert.KernelIdeal.Value.productOf_apply]
  refine Eq.trans ?_ (Cert.ReferenceIdeal.Sum.product_apply ws b _ _ _ _).symm
  refine congrArg (fun a : EReal => a + _) (Eq.trans (Finset.sum_congr rfl fun k _ => ?_)
    (scaled_sum (fun k => clipped (F := Ideal) x (expOf x) (ix2 (n0 := 4096) (n1 := 5120) r k))
      (fun k => wc (ix2 (n0 := 5120) (n1 := 5120) n k)) (fun g => scaleBytes (expOf x) (ix2 (n0 := 4096) (n1 := 160) r g))
      (fun g => ws (ix2 (n0 := 5120) (n1 := 160) n g))))
  refine congrArg₂ (fun a b : EReal => a * b) (deq_eq x hx r k) (congrArg (fun a : EReal => _ * a) ?_)
  exact scaleOf_eq _ (hs _).1 (hs _).2

/-! ## The three results -/

include hx hs in
theorem resultY_eq : Cert.KernelIdeal.Value.resultY x wc ws b = Cert.ReferenceIdeal.Sum.resultY x wc ws b :=
  congrArg (fun z : Vec Ideal Cert.KernelIdeal.S4096x5120 .bf16 =>
    shapeCast Cert.KernelIdeal.S1x4096x5120 z Cert.KernelIdeal.Gen.shapeCasts_S4096x5120_S1x4096x5120) (product_eq x hx wc ws b hs)

include hx in
theorem resultCodes_eq : Cert.KernelIdeal.Value.resultCodes x = Cert.ReferenceIdeal.Sum.resultCodes x :=
  congrArg (fun z : Vec Ideal Cert.KernelIdeal.S4096x5120 .fp8e4m3 =>
    shapeCast Cert.KernelIdeal.S1x4096x5120 z Cert.KernelIdeal.Gen.shapeCasts_S4096x5120_S1x4096x5120) (codes_eq x hx)

include hx in
theorem resultScales_eq : Cert.KernelIdeal.Value.resultScales x = Cert.ReferenceIdeal.Sum.resultScales x :=
  congrArg (fun z : Vec Ideal Cert.KernelIdeal.S4096x160 .i8 =>
    shapeCast Cert.KernelIdeal.S1x4096x160 z Cert.KernelIdeal.Gen.shapeCasts_S4096x160_S1x4096x160) (scales_eq x hx)

end Cert.Equation

end
-- ==== Proof.lean ====
/-
  THE CERTIFICATE. `claim` proves every claim of `proofs.«01_k».proof.Defs`: the three programs run to the end, from any
  memory, with the arguments unchanged and every counter at zero (the generated frames); the idealized kernel is the
  kernel's own program, read on the extended reals; and for the inputs that the precondition admits the idealized kernel
  and the reference end with the same three results (`algebraic`). The mathematics is in the modules under Proof/: Quant/
  (the quantiser's codes, scale codes and dequantised values), `Tile`, `Block` and `Weights` (the decoded weights),
  `Product` (the matrix product), `Run` (the kernel's run), `Plain` and `Reference` (the reference's), `Scale` and
  `Exponent` (the two readings of a scale code, the two ways to find it) and `Equation` (the results are equal).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_inputs_valid
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_inputs_valid.Gen.facts

/-- The comparisons of the precondition on the activations, at one group's greatest magnitude. -/
theorem fits_of (a : EReal) (h : IntOp.andi (Ideal.cmp .ole a (Ideal.ofBits .f32 0x7F7F0000#32))
    (IntOp.ori (Ideal.cmp .oeq a (Ideal.ofBits .f32 0x00000000#32))
      (Ideal.cmp .oge (a * Ideal.ofBits .f32 0x3B124925#32) (Ideal.ofBits .f32 0x00800000#32))) = 1#1) : Cert.Exponent.Fits a := by
  have bits : ∀ p q r : BitVec 1, IntOp.andi p (IntOp.ori q r) = 1#1 → p = 1#1 ∧ (q = 1#1 ∨ r = 1#1) := by decide
  obtain ⟨h1, h2⟩ := bits _ _ _ h
  exact ⟨(Cert.Exponent.cmp_ole _ _).1 h1, h2.imp (Cert.Exponent.cmp_oeq _ _).1 (Cert.Exponent.cmp_oge _ _).1⟩

/-- The two comparisons of the precondition on the scale codes of the weights, at one code. -/
theorem code_range : ∀ s : BitVec 8,
    IntOp.andi (IntOp.cmpi .sge (s.setWidth 32) 1#32) (IntOp.cmpi .sle (s.setWidth 32) 254#32) = 1#1 → 1 ≤ s.toNat ∧ s.toNat ≤ 254 := by
  decide +kernel

variable (x : Vec Ideal Cert.KernelIdeal.S1x4096x5120 .bf16) (wc : Vec Ideal Cert.KernelIdeal.S5120x5120 .fp8e4m3)
  (ws : Vec Ideal Cert.KernelIdeal.S5120x160 .i8) (b : Vec Ideal Cert.KernelIdeal.S5120 .f32)

section Precondition

open Cert.Pre_inputs_valid Cert.Pre_inputs_valid.Gen

/-- The comparisons of the precondition on the activations, of any greatest magnitudes, at one group. -/
theorem compared (a : FVec Ideal S4096x160 .f32) (i : S4096x160.Idx) :
    andi (cmpf .ole a (broadcastInDim S4096x160 ![] bcast_S_S4096x160 (constant S_ .f32 0x7F7F0000#32)))
      (ori (cmpf .oeq a (broadcastInDim S4096x160 ![] bcast_S_S4096x160 (constant S_ .f32 0x00000000#32)))
        (cmpf .oge (mulf a (broadcastInDim S4096x160 ![] bcast_S_S4096x160 (constant S_ .f32 0x3B124925#32)))
          (broadcastInDim S4096x160 ![] bcast_S_S4096x160 (constant S_ .f32 0x00800000#32)))) i
    = IntOp.andi (Ideal.cmp .ole (a i) (Ideal.ofBits .f32 0x7F7F0000#32))
      (IntOp.ori (Ideal.cmp .oeq (a i) (Ideal.ofBits .f32 0x00000000#32))
        (Ideal.cmp .oge (a i * Ideal.ofBits .f32 0x3B124925#32) (Ideal.ofBits .f32 0x00800000#32))) := rfl

/-- The greatest magnitudes that the precondition compares are the reference's. -/
theorem greatests_eq : Host.reduce FloatOps.maximumf (Host.absf (shapeCast S4096x160x32 (extf (F := Ideal) .f32 x bitsLt_bf16_f32)
      shapeCasts_S1x4096x5120_S4096x160x32)) (constant S_ .f32 0xFF800000#32) reducesTo_S4096x160x32_S4096x160_d2 h_S_
    = Cert.ReferenceIdeal.Plain.greatests (F := Ideal) x := by
  unfold Cert.ReferenceIdeal.Plain.greatests Cert.ReferenceIdeal.Plain.groups
  rfl

/-- Under the precondition every group's greatest magnitude fits. -/
theorem allFit (h : (Cert.Pre_inputs_valid.fn (F := Ideal) x wc ws b).1 = fun _ => 1#1) : Cert.Equation.AllFit x := by
  intro r g
  have e := congrFun h (ix2 (n0 := 4096) (n1 := 160) r g)
  unfold fn fn_part1 at e
  dsimp only at e
  rw [greatests_eq] at e
  exact fits_of _ ((compared _ _).symm.trans e)

end Precondition

/-- Under the precondition every scale code of the weights is from 1 to 254. -/
theorem codes_valid (h : (Cert.Pre_inputs_valid.fn (F := Ideal) x wc ws b).2 = fun _ => 1#1) (i : Cert.KernelIdeal.S5120x160.Idx) :
    1 ≤ (ws i : BitVec 8).toNat ∧ (ws i : BitVec 8).toNat ≤ 254 :=
  code_range _ (congrFun h i)

/-- The idealized kernel and the reference end with equal results. -/
theorem algebraic : Cert.algebraic_KernelIdeal_ReferenceIdeal_pre_inputs_valid := by
  intro m g m' g' hpre hargs
  refine ⟨fun c => Cert.KernelIdeal.Value.resultY (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.KernelIdeal.Value.resultCodes (m ((c.tc : Thread Cert.KernelIdeal.nD Cert.KernelIdeal.τ).loc Cert.KernelIdeal.main_arg0)),
    fun c => Cert.KernelIdeal.Value.resultScales (m ((c.tc : Thread Cert.KernelIdeal.nD Cert.KernelIdeal.τ).loc Cert.KernelIdeal.main_arg0)),
    Cert.KernelIdeal.Value.run m g, ?_⟩
  refine (θ_run Cert.ReferenceIdeal.defs _ _).mono
    (fun r h c => ⟨(h c).1.trans ?_, (h c).2.1.trans ?_, (h c).2.2.1.trans ?_, (h c).2.2.2⟩) (Cert.ReferenceIdeal.Sum.run m' g')
  all_goals
    obtain ⟨h0, h1, h2, h3⟩ := hargs c
    have hx := allFit _ _ _ _ (hpre c).1
  · rw [h0, h1, h2, h3]
    exact (Cert.Equation.resultY_eq _ hx _ _ _ (codes_valid _ _ _ _ (hpre c).2)).symm
  · rw [h0]
    exact (Cert.Equation.resultCodes_eq _ hx).symm
  · rw [h0]
    exact (Cert.Equation.resultScales_eq _ hx).symm

theorem claim : Cert.Claim :=
  ⟨Cert.Kernel.Gen.facts, Cert.KernelIdeal.Gen.facts, Cert.ReferenceIdeal.Gen.facts, Cert.Pre_inputs_valid.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
